-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 2048, 16, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 2048, 16, 64]⟩ (Layout.meshBlock [2, 2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x1024x16x64 : S_.BroadcastsInDim S16x1024x16x64 (![] : Fin 0 → Fin S16x1024x16x64.rank)
  reducesTo_S16x1024x16x64_S_d0_1_2_3 : S16x1024x16x64.ReducesTo [0, 1, 2, 3] S_

variable [Facts]

def fn {F : FTy → Type} [FloatOps F] (main_arg0 : FVec F S16x1x16x64 .f32) (main_arg1 : FVec F S16x1024x16x64 .f32) (main_arg2 : FVec F S16x1024x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x1024x16x64 .f32 := Host.absf main_arg1
  let main_cst_0 : FVec F S_ .f32 := constant S_ .f32 0x7F800000#32
  let main_v5 : FVec F S16x1024x16x64 .f32 := broadcastInDim S16x1024x16x64 ![] bcast_S_S16x1024x16x64 main_cst_0
  let main_v6 : IVec S16x1024x16x64 1 := cmpf .olt main_v4 main_v5
  let main_c_1 : IVec S_ 1 := constantI S_ 1 1#1
  let main_v7 : IVec S_ 1 := (fun x v => Host.reduce IntOp.andi x v reducesTo_S16x1024x16x64_S_d0_1_2_3 h_S_) main_v6 main_c_1
  let main_v8 : IVec S_ 1 := andi main_v3 main_v7
  main_v8
-- ==== Pre_finite_scores_ReferenceIdeal.lean ====
abbrev S16x1x16x64 : Shape := ⟨4, ![16, 1, 16, 64]⟩
abbrev S16x2048x16x64 : Shape := ⟨4, ![16, 2048, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_

variable [Facts]

def fn {F : FTy → Type} [FloatOps F] (main_arg0 : FVec F S16x1x16x64 .f32) (main_arg1 : FVec F S16x2048x16x64 .f32) (main_arg2 : FVec F S16x2048x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x2048x16x64 .f32 := Host.absf main_arg1
  let main_cst_0 : FVec F S_ .f32 := constant S_ .f32 0x7F800000#32
  let main_v5 : FVec F S16x2048x16x64 .f32 := broadcastInDim S16x2048x16x64 ![] bcast_S_S16x2048x16x64 main_cst_0
  let main_v6 : IVec S16x2048x16x64 1 := cmpf .olt main_v4 main_v5
  let main_c_1 : IVec S_ 1 := constantI S_ 1 1#1
  let main_v7 : IVec S_ 1 := (fun x v => Host.reduce IntOp.andi x v reducesTo_S16x2048x16x64_S_d0_1_2_3 h_S_) main_v6 main_c_1
  let main_v8 : IVec S_ 1 := andi main_v3 main_v7
  main_v8
-- ==== Kernel.lean ====
abbrev S16x1x16x64 : Shape := ⟨4, ![16, 1, 16, 64]⟩
abbrev S16x1024x16x64 : Shape := ⟨4, ![16, 1024, 16, 64]⟩
abbrev S16x1x1024 : Shape := ⟨3, ![16, 1, 1024]⟩
abbrev S16x1024x1024 : Shape := ⟨3, ![16, 1024, 1024]⟩
abbrev S1x1x512 : Shape := ⟨3, ![1, 1, 512]⟩
abbrev S1x1024x512 : Shape := ⟨3, ![1, 1024, 512]⟩
abbrev S1x512 : Shape := ⟨2, ![1, 512]⟩
abbrev S1024x512 : Shape := ⟨2, ![1024, 512]⟩
abbrev S8x512 : Shape := ⟨2, ![8, 512]⟩
abbrev S1024x8 : Shape := ⟨2, ![1024, 8]⟩
abbrev S512 : Shape := ⟨1, ![512]⟩
abbrev S2 : Shape := ⟨1, ![2]⟩
abbrev S_ : Shape := ⟨0, ![]⟩
abbrev S1 : Shape := ⟨1, ![1]⟩

abbrev nBuf : Space → Nat
  | .hbm => 13
  | .vmem => 15
  | .smem => 0
  | _ => 0

abbrev bufTy : (tb : Table) → Fin (tcTables nBuf tb) → BufTy
  | .hbm, ⟨0, _⟩ => ⟨S16x1x16x64, .f32⟩
  | .hbm, ⟨1, _⟩ => ⟨S16x1024x16x64, .f32⟩
  | .hbm, ⟨2, _⟩ => ⟨S16x1024x16x64, .f32⟩
  | .hbm, ⟨3, _⟩ => ⟨S16x1x16x64, .bf16⟩
  | .hbm, ⟨4, _⟩ => ⟨S16x1x1024, .bf16⟩
  | .hbm, ⟨5, _⟩ => ⟨S16x1024x16x64, .bf16⟩
  | .hbm, ⟨6, _⟩ => ⟨S16x1024x1024, .bf16⟩
  | .hbm, ⟨7, _⟩ => ⟨S16x1024x16x64, .bf16⟩
  | .hbm, ⟨8, _⟩ => ⟨S16x1024x1024, .bf16⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x16x64, .f32⟩
  | .local _ .vmem, ⟨0, _⟩ => ⟨S1x1x512, .bf16⟩
  | .local _ .vmem, ⟨1, _⟩ => ⟨S1x1x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S16x1x1024, .f32⟩
  | .local _ .vmem, ⟨11, _⟩ => ⟨S16x1x1024, .f32⟩
  | .local _ .vmem, ⟨12, _⟩ => ⟨S16x1x1024, .f32⟩
  | .local _ .vmem, ⟨13, _⟩ => ⟨S16x1x1024, .f32⟩
  | .local _ .vmem, ⟨14, _⟩ => ⟨S16x1x1024, .f32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_scratch0 : Ref sig .tc := ⟨.vmem, 13, rfl⟩
abbrev cc1_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev barrier0 : Sem sig := 0

abbrev nD : Nat := 8
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := .none

def k1_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k1_dev2 (d0 : Dev nD) : Nat :=
  let c0_i32_12 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_11 : BitVec 32 := 4#32
  let v17 : BitVec 32 := Scalar.muli v9 c4_i32_11
  let v18 : BitVec 32 := Scalar.addi c0_i32_12 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v19 : BitVec 32 := Scalar.muli v5 c2_i32_13
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v21 : BitVec 32 := Scalar.muli v8 c1_i32_14
  let v22 : BitVec 32 := Scalar.addi v20 v21
  v22.toNat
def k1_dev3 (d0 : Dev nD) : Nat :=
  let c0_i32_18 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v27 : BitVec 32 := Scalar.muli v9 c4_i32_17
  let v28 : BitVec 32 := Scalar.addi c0_i32_18 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v29 : BitVec 32 := Scalar.muli v5 c2_i32_19
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v31 : BitVec 32 := Scalar.muli v8 c1_i32_20
  let v32 : BitVec 32 := Scalar.addi v30 v31
  v32.toNat
abbrev stage1_0 : Fin 1 → Memref sig .tc .vmem S16x1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S16x1x16x64 : Shape := ⟨4, ![16, 1, 16, 64]⟩
abbrev S16x2048x16x64 : Shape := ⟨4, ![16, 2048, 16, 64]⟩
abbrev S16x16x1x2048 : Shape := ⟨4, ![16, 16, 1, 2048]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S16x2048x16x64, .f32⟩
  | .hbm, ⟨2, _⟩ => ⟨S16x2048x16x64, .f32⟩
  | .hbm, ⟨3, _⟩ => ⟨S16x16x1x2048, .f32⟩
  | .hbm, ⟨4, _⟩ => ⟨S_, .f32⟩
  | .hbm, ⟨5, _⟩ => ⟨S16x16x1x2048, .f32⟩
  | .hbm, ⟨6, _⟩ => ⟨S16x16x1x2048, .f32⟩
  | .hbm, ⟨7, _⟩ => ⟨S_, .f32⟩
  | .hbm, ⟨8, _⟩ => ⟨S16x16x1, .f32⟩
  | .hbm, ⟨9, _⟩ => ⟨S16x16x1x1, .f32⟩
  | .hbm, ⟨10, _⟩ => ⟨S16x16x1x2048, .f32⟩
  | .hbm, ⟨11, _⟩ => ⟨S16x16x1x2048, .f32⟩
  | .hbm, ⟨12, _⟩ => ⟨S16x16x1x2048, .f32⟩
  | .hbm, ⟨13, _⟩ => ⟨S_, .f32⟩
  | .hbm, ⟨14, _⟩ => ⟨S16x16x1, .f32⟩
  | .hbm, ⟨15, _⟩ => ⟨S16x16x1x1, .f32⟩
  | .hbm, ⟨16, _⟩ => ⟨S16x16x1x2048, .f32⟩
  | .hbm, ⟨17, _⟩ => ⟨S16x16x1x2048, .f32⟩
  | .hbm, ⟨18, _⟩ => ⟨S16x16x64x1, .f32⟩
  | .hbm, ⟨19, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mesh.lean ====
module

public import proofs.«01_k».proof.Proof.Gen.KernelIdeal.Skeleton
public import proofs.«01_k».proof.Proof.Gen.KernelIdeal.Launch
public import Idealize.ShloMosaic.Lib.Rounds
public import Idealize.ShloMosaic.Lib.Tactic
public import Idealize.ShloMosaic.Lib.Memref
public import Idealize.ShloMosaic.Harness.Basic

@[expose] public section

set_option maxRecDepth 16384

noncomputable section

namespace Cert.FlashMesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! # How a pair of devices exchanges its partial results

Device `c` and its partner along the first axis of the mesh signal each other, send each other two
buffers, and wait. This module names the cells of the exchange, says what each arrival carries,
and proves one step of each kind. -/

variable {F : FTy → Type} [FloatOps F]

abbrev UU : Type := UR sig nD τ × UR sig nD τ

local notation "𝕄" => MT nD τ sig Unit (Elt F) ℕ UU ℕ

/-- The copy of the round algebra for the pipelines' staging, -/
abbrev EP : Emb (UR sig nD τ) (MT nD τ sig Unit (Elt F) ℕ UU ℕ) := embL
/-- and the copy for the exchange. -/
abbrev EX : Emb (UR sig nD τ) (MT nD τ sig Unit (Elt F) ℕ UU ℕ) := embR

abbrev 𝒱₀ : Variants := Variants.none

/-! ## Partners -/

/-- The device with the same last two coordinates and the other first one. -/
def pr (c : Dev nD) : Dev nD := ⟨(c.val + 4) % 8, Nat.mod_lt _ (by decide)⟩

theorem pr_pr (c : Dev nD) : pr (pr c) = c := by revert c; decide

/-- Swapping partners, as a permutation of the devices. -/
def swap : Dev nD ≃ Dev nD := ⟨pr, pr, pr_pr, pr_pr⟩

theorem to_pr1 (c : Dev nD) : (⟨k1_dev1 c, k1_dev1_lt c⟩ : Dev nD) = pr c := by
  apply Fin.ext; show k1_dev1 c = _; rw [k1_dev1_eq]; revert c; decide
theorem to_pr2 (c : Dev nD) : (⟨k1_dev2 c, k1_dev2_lt c⟩ : Dev nD) = pr c := by
  apply Fin.ext; show k1_dev2 c = _; rw [k1_dev2_eq]; revert c; decide
theorem to_pr3 (c : Dev nD) : (⟨k1_dev3 c, k1_dev3_lt c⟩ : Dev nD) = pr c := by
  apply Fin.ext; show k1_dev3 c = _; rw [k1_dev3_eq]; revert c; decide

/-! ## Buffers and cells -/

/-- The two staged buffers a device sends, -/
def stgM : Fin 2 → Memref sig .tc .vmem S16x1x1024 .f32
  | 0 => Memref.whole cc1_stg0_0
  | 1 => Memref.whole cc1_stg1_0
/-- and the two buffers its partner's land in. -/
def slotM : Fin 2 → Memref sig .tc .vmem S16x1x1024 .f32
  | 0 => Memref.whole cc1_scratch0
  | 1 => Memref.whole cc1_scratch1

theorem stgM_set (i : Fin 2) : (stgM i).view.set = Finset.univ := by fin_cases i <;> exact View.set_whole _
theorem slotM_set (i : Fin 2) : (slotM i).view.set = Finset.univ := by fin_cases i <;> exact View.set_whole _

/-- The credit one of those buffers is worth. -/
def N : ℕ := (slotM 0).view.dmaCredit
theorem N_pos : 0 < N := View.dmaCredit_pos _ (by decide)
theorem credit_slot (i : Fin 2) : (slotM i).view.dmaCredit = N := by fin_cases i <;> rfl
theorem credit_stg (i : Fin 2) : (stgM i).view.dmaCredit = N := by fin_cases i <;> rfl

abbrev barS : Sem sig := ⟨0, by decide⟩
def sndS (i : Fin 2) : DmaSem sig := ⟨13 + i.val, by have := i.isLt; show _ < 17; omega⟩
def rcvS (i : Fin 2) : DmaSem sig := ⟨15 + i.val, by have := i.isLt; show _ < 17; omega⟩
/-- Which of the two transfers a semaphore of the exchange serves. -/
def lane (d : DmaSem sig) : Fin 2 := ⟨(d.val + 1) % 2, Nat.mod_lt _ (by decide)⟩

theorem lane_snd (i : Fin 2) : lane (sndS i) = i := by revert i; decide
theorem lane_rcv (i : Fin 2) : lane (rcvS i) = i := by revert i; decide
theorem snd_lt (i : Fin 2) : (sndS i).val < 15 := by revert i; decide
theorem rcv_not_lt (i : Fin 2) : ¬ (rcvS i).val < 15 := by revert i; decide
theorem snd_ge (i : Fin 2) : 13 ≤ (sndS i).val := by revert i; decide
theorem rcv_ge (i : Fin 2) : 13 ≤ (rcvS i).val := by revert i; decide

abbrev barCell (c : Dev nD) : GSem nD τ sig := ((c : Thread nD τ), .reg barS)
abbrev dmaCell (c : Dev nD) (d : DmaSem sig) : GSem nD τ sig := ((c : Thread nD τ), .dma d)

/-! ## The schedule -/

variable (A : Fin 2 → Dev nD → Vec F S16x1x1024 .f32)

/-- Carried by the partner's signal: its two landing buffers, and that their cells are at their first round. -/
def barPay (c : Dev nD) : sProp 𝕄 :=
  iprop((∃ X, owns (pr c : Thread nD τ) (slotM 0) fullShare X) ∗ (∃ X, owns (pr c : Thread nD τ) (slotM 1) fullShare X)
    ∗ reached EX (dmaCell (pr c) (rcvS 0)) 0 ∗ reached EX (dmaCell (pr c) (rcvS 1)) 0)
/-- Carried by the end of a transfer's reading: the source, as it was. -/
def sndPay (i : Fin 2) (c : Dev nD) : sProp 𝕄 := owns (c : Thread nD τ) (stgM i) fullShare (A i c)
/-- Carried by a transfer's arrival: the landing buffer, holding the partner's contents. -/
def rcvPay (i : Fin 2) (c : Dev nD) : sProp 𝕄 := owns (c : Thread nD τ) (slotM i) fullShare (A i (pr c))

/-- What one duty of a cell carries. -/
def pay (c : Dev nD) : SemLoc sig → sProp 𝕄
  | .reg _ => barPay c
  | .dma d => if d.val < 15 then sndPay A (lane d) c else rcvPay A (lane d) c

/-- Whether a semaphore takes part in the exchange. -/
def talks : SemLoc sig → Prop
  | .reg _ => True
  | .dma d => 13 ≤ d.val

instance : DecidablePred talks := fun s => by cases s <;> unfold talks <;> infer_instance

/-- What one duty of a cell is worth. -/
def worth : SemLoc sig → ℕ
  | .reg _ => 1
  | .dma _ => N

/-- One round of one duty on each cell of the exchange. -/
def Rd : Rounds.Schedule (GSem nD τ sig) Unit 𝕄 where
  duties g r := if r = 0 ∧ g.1.2 = .tc ∧ talks g.2 then {()} else ∅
  unitless _ := False
  amount g _ _ := worth g.2
  payload g _ _ := pay A g.1.1 g.2
  amount_pos g _ _ _ := by
    show 0 < worth g.2
    cases g.2
    · exact Nat.one_pos
    · exact N_pos

instance Rd_payload_storable (g : GSem nD τ sig) (r : ℕ) (d : Unit) :
    BI.Storable (upEmb : UEmb _ 𝕄) ((Rd (F := F) A).payload g r d) := by
  show BI.Storable upEmb (pay A g.1.1 g.2)
  cases g.2
  · show BI.Storable upEmb (barPay g.1.1); unfold barPay; infer_instance
  · rename_i d; show BI.Storable upEmb (if d.val < 15 then sndPay A (lane d) g.1.1 else rcvPay A (lane d) g.1.1)
    unfold sndPay rcvPay; split <;> infer_instance

theorem duties_of (c : Dev nD) (s : SemLoc sig) (h : talks s) : (Rd (F := F) A).duties ((c : Thread nD τ), s) 0 = {()} :=
  if_pos ⟨rfl, rfl, h⟩
theorem duty_mem (c : Dev nD) (s : SemLoc sig) (h : talks s) : () ∈ (Rd (F := F) A).duties ((c : Thread nD τ), s) 0 := by
  rw [duties_of A c s h]; exact Finset.mem_singleton_self _
theorem duties_none (g : GSem nD τ sig) : ∀ r, 0 + 1 ≤ r → (Rd (F := F) A).duties g r = ∅ :=
  fun r hr => if_neg fun h => by omega
theorem expect_of (c : Dev nD) (s : SemLoc sig) (h : talks s) : (Rd (F := F) A).expect ((c : Thread nD τ), s) 0 = worth s := by
  unfold Schedule.expect Schedule.amountOf; rw [duties_of A c s h, Finset.sum_singleton]; rfl
theorem rest_of (c : Dev nD) (s : SemLoc sig) (h : talks s) :
    bigSep ((Rd (F := F) A).duties ((c : Thread nD τ), s) 0 \ ∅) (fun u => (Rd (F := F) A).payload ((c : Thread nD τ), s) 0 u) = pay A c s := by
  rw [Finset.sdiff_empty, duties_of A c s h, bigSep_singleton]; rfl

theorem pay_snd (i : Fin 2) (c : Dev nD) : pay A c (.dma (sndS i)) = sndPay A i c := by
  show (if (sndS i).val < 15 then sndPay A (lane (sndS i)) c else rcvPay A (lane (sndS i)) c) = _
  rw [if_pos (snd_lt i), lane_snd]
theorem pay_rcv (i : Fin 2) (c : Dev nD) : pay A c (.dma (rcvS i)) = rcvPay A i c := by
  show (if (rcvS i).val < 15 then sndPay A (lane (rcvS i)) c else rcvPay A (lane (rcvS i)) c) = _
  rw [if_neg (rcv_not_lt i), lane_rcv]

/-! ## Debts and levels -/

/-- What a device owes once it has signalled: its partner's two arrivals. -/
def owed2 (c : Dev nD) : CellTallies nD τ sig Unit :=
  tallyAt (dmaCell (pr c) (rcvS 1)) () N + tallyAt (dmaCell (pr c) (rcvS 0)) () N
/-- What a device owes at launch: those, and the signal. -/
def owed0 (c : Dev nD) : CellTallies nD τ sig Unit := owed2 c + tallyAt (barCell (pr c)) () 1

/-- Every cell of a TensorCore has its one label. -/
def L (g : GSem nD τ sig) : Finset Unit := if g.1.2 = .tc then {()} else ∅
/-- Arrivals stand above signals, and signals above everything else. -/
def lv (g : GSem nD τ sig) (_ : Unit) : ℕ :=
  match g.2 with
  | .reg _ => 1
  | .dma d => if d.val < 15 then 0 else 2

theorem L_tc (c : Dev nD) (s : SemLoc sig) : L ((c : Thread nD τ), s) = {()} := if_pos rfl
theorem L_of_ne (g : GSem nD τ sig) (h : g.1.2 ≠ .tc) : L g = ∅ := if_neg h
theorem lv_rcv (c : Dev nD) (i : Fin 2) (u : Unit) : lv (dmaCell c (rcvS i)) u = 2 := if_neg (rcv_not_lt i)

/-- Any debt of the exchange is labelled and stands above level `0`; once the signal is paid, above level `1`. -/
theorem owed2_pos (c : Dev nD) (g : GSem nD τ sig) (u : Unit) (h : 0 < owed2 c g u) : u ∈ L g ∧ 1 < lv g u := by
  unfold owed2 at h
  have h' : 0 < (tallyAt (dmaCell (pr c) (rcvS 1)) () N : CellTallies nD τ sig Unit) g u
      + (tallyAt (dmaCell (pr c) (rcvS 0)) () N : CellTallies nD τ sig Unit) g u := h
  rw [tallyAt_apply, tallyAt_apply] at h'
  by_cases h1 : g = dmaCell (pr c) (rcvS 1) ∧ u = ()
  · rw [h1.1, L_tc, lv_rcv]; exact ⟨Finset.mem_singleton_self _, by decide⟩
  by_cases h0 : g = dmaCell (pr c) (rcvS 0) ∧ u = ()
  · rw [h0.1, L_tc, lv_rcv]; exact ⟨Finset.mem_singleton_self _, by decide⟩
  rw [if_neg h1, if_neg h0] at h'; exact absurd h' (Nat.lt_irrefl 0)

theorem owed0_pos (c : Dev nD) (g : GSem nD τ sig) (u : Unit) (h : 0 < owed0 c g u) : u ∈ L g ∧ 0 < lv g u := by
  have h' : 0 < owed2 c g u + (tallyAt (barCell (pr c)) () 1 : CellTallies nD τ sig Unit) g u := h
  by_cases h2 : 0 < owed2 c g u
  · exact ⟨(owed2_pos c g u h2).1, lt_trans Nat.zero_lt_one (owed2_pos c g u h2).2⟩
  rw [tallyAt_apply] at h'
  by_cases h1 : g = barCell (pr c) ∧ u = ()
  · rw [h1.1, L_tc]; exact ⟨Finset.mem_singleton_self _, Nat.one_pos⟩
  rw [if_neg h1] at h'; omega

/-- A device may wait for its partner's signal while it owes the partner's arrivals. -/
theorem mayWait_bar (c : Dev nD) : (levAts L lv : sProp 𝕄) ⊢ MayWait (c : Thread nD τ) (.reg barS) () (owed2 c) :=
  MayOwe.of_cut (L := L) (lev := lv) 1
    (fun p hp => by rw [Finset.mem_singleton.mp hp, L_tc]; exact Finset.mem_singleton_self _)
    (fun g u h => (owed2_pos c g u h).1) (fun p hp => by rw [Finset.mem_singleton.mp hp]; exact le_refl 1)
    (fun g u h => (owed2_pos c g u h).2)

/-! ## One step of each kind -/

section Steps

variable {α : Type} (c : Dev nD)

/-- Waiting on a cell of the exchange's transfers, owing nothing: what the cell's one duty carries comes back. -/
theorem wait_step (κ : ℕ) (d : DmaSem sig) (hd : 13 ≤ d.val) (W : Waits sig Unit)
    {src dst : Memref sig .tc .vmem S16x1x1024 .f32} {hs : src.view.WordExact} {hd' : dst.view.WordExact} (hN : dst.view.dmaCredit = N)
    {k : PUnit → Prog (TpuEff nD τ sig (Elt F) Λ₀ .tc) α} {Q : α → sProp 𝕄} :
    iprop(cellInv EX (Rd A) κ (dmaCell c d) ∗ cred (tallyAt (dmaCell c d) () N) ∗ owes (c : Thread nD τ) 0 W ∗ atPos EX (dmaCell c d) 0 ∅ 0)
      ⊢ iprop((owes (c : Thread nD τ) 0 (insert (SemLoc.dma d, ()) W) ∗ atPos EX (dmaCell c d) (0 + 1) ∅ 0 ∗ pay A c (.dma d)
            -∗ wp frame (wpE (defs₀ (F := F)) 𝒱₀ c none) Set.univ (k ⟨⟩) Q)
          -∗ wp frame (wpE (defs₀ (F := F)) 𝒱₀ c none) Set.univ (.op (.waitDma2 d src dst hs hd') k) Q) := by
  iintro ⟨HI, Hc, HO, Hat⟩ Hk
  iapply (Rounds.wp_wait_rest_token 𝒱₀ EX (Rd A) (c : Thread nD τ) none (κ := κ)
      (wpE_waitDma2_eq 𝒱₀ (c : Thread nD τ) none Set.univ) (Set.mem_univ _) () (O := 0) (W := W) (R := 0) (m := 0) (T := ∅)
      ((Nat.zero_add _).trans (hN.trans (expect_of A c (.dma d) hd).symm))) $$ [HI Hc HO Hat]
  · isplitl [HI]; · iexact HI
    isplitl [Hc]; · rw [hN]; iexact Hc
    isplitl [HO]; · iexact HO
    isplitr; · rw [MayWait_zero]; iempintro
    iexact Hat
  iintro ⟨HO, Hat, -, Hp⟩
  ihave Hp := (Entails.of_eq (rest_of A c (.dma d) hd)) $$ Hp
  iapply Hk
  isplitl [HO]; · iexact HO
  isplitl [Hat]; · iexact Hat
  iexact Hp

/-- Sending staged buffer `i` to the partner `n`: the two duties of the transfer are paid, and the
    device has the credit to wait for the end of the reading. -/
theorem send_step (K : GSem nD τ sig → ℕ) (i : Fin 2) (n : Dev nD) (hn : n = pr c) (O : CellTallies nD τ sig Unit) (W : Waits sig Unit)
    {hsc : (slotM i : Memref sig (Dev.tc n : Thread nD τ).2.kind .vmem S16x1x1024 .f32).view.ref.isScScratch = false}
    {hsrc : (stgM i).view.WordExact} {hdst : (slotM i : Memref sig .tc .vmem S16x1x1024 .f32).view.WordExact}
    {hsem : DmaTarget.Typed .vmem (.dma (rcvS i)) (.remote (Dev.tc n : Thread nD τ) (slotM i : Memref sig .tc .vmem S16x1x1024 .f32) (.dma (sndS i)) hsc)}
    {k : PUnit → Prog (TpuEff nD τ sig (Elt F) Λ₀ .tc) α} {Q : α → sProp 𝕄} :
    iprop(cellInv EX (Rd A) (K (dmaCell c (sndS i))) (dmaCell c (sndS i)) ∗ cellInv EX (Rd A) (K (dmaCell (pr c) (rcvS i))) (dmaCell (pr c) (rcvS i))
        ∗ owns (c : Thread nD τ) (stgM i) fullShare (A i c) ∗ (∃ X, owns (pr c : Thread nD τ) (slotM i) fullShare X)
        ∗ owes (c : Thread nD τ) (O + tallyAt (dmaCell (pr c) (rcvS i)) () N) W
        ∗ dutyTok EX (dmaCell c (sndS i)) 0 () ∗ reached EX (dmaCell c (sndS i)) 0
        ∗ dutyTok EX (dmaCell (pr c) (rcvS i)) 0 () ∗ reached EX (dmaCell (pr c) (rcvS i)) 0)
      ⊢ iprop((cred (tallyAt (dmaCell c (sndS i)) () N) ∗ owes (c : Thread nD τ) O W
            -∗ wp frame (wpE (defs₀ (F := F)) 𝒱₀ c none) Set.univ (k ⟨⟩) Q)
          -∗ wp frame (wpE (defs₀ (F := F)) 𝒱₀ c none) Set.univ
              (.op (.enqueueDma (stgM i) (.remote (Dev.tc n : Thread nD τ) (slotM i) (.dma (sndS i)) hsc) (.dma (rcvS i)) hsrc hdst hsem) k) Q) := by
  subst hn
  unfold owns
  iintro ⟨HIs, HIr, ⟨%fs, %hfs, Hs⟩, ⟨%X, %fd, %_hfd, Hd⟩, HO, HtS, HrS, HtR, HrR⟩ Hk
  iapply (Rounds.wp_send_pointsTo 𝒱₀ EX (Rd A) (c : Thread nD τ) none (c' := (pr c : Thread nD τ)) (src := stgM i) (dst := slotM i)
      (sS := .dma (sndS i)) (sem := .dma (rcvS i)) (q := fullShare) (fs := fs) (fd := fd)
      (κ₁ := K (dmaCell c (sndS i))) (κ₂ := K (dmaCell (pr c) (rcvS i))) (r₁ := 0) (r₂ := 0) (d₁ := ()) (d₂ := ())
      (duty_mem A c (.dma (sndS i)) (snd_ge i)) (duty_mem A (pr c) (.dma (rcvS i)) (rcv_ge i)) () () N (credit_slot i) rfl rfl O rfl (W := W)
      (by
        show _ ⊢ pay A c (.dma (sndS i))
        rw [pay_snd]; unfold sndPay; rw [← hfs]
        exact owns_intro (c : Thread nD τ) (stgM i) fullShare fs)
      (by
        show _ ⊢ pay A (pr c) (.dma (rcvS i))
        rw [pay_rcv]; unfold rcvPay; rw [pr_pr, ← hfs]
        refine (owns_intro (pr c : Thread nD τ) (slotM i) fullShare _).trans (Entails.of_eq ?_)
        rw [View.read_write_univ])) $$ [HIs HIr Hs Hd HO HtS HrS HtR HrR]
  · isplitl [HIs]; · iexact HIs
    isplitl [HIr]; · iexact HIr
    isplitl [Hs]; · iexact Hs
    isplitl [Hd]; · iexact Hd
    isplitl [HO]; · iexact HO
    isplitl [HtS]; · iexact HtS
    isplitl [HrS]; · iexact HrS
    isplitl [HtR]; · iexact HtR
    iexact HrR
  iexact Hk

/-- A cell past its one round is closed, its counter back at zero. -/
theorem shut (κ : ℕ) (g : GSem nD τ sig) :
    iprop(cellInv EX (Rd A) κ g ∗ atPos EX g (0 + 1) ∅ 0) ⊢ (|={Set.univ}=> semVal g 0 : sProp 𝕄) :=
  Rounds.cell_close EX (Rd A) (Set.mem_univ κ) id (duties_none A g)

end Steps

end Cert.FlashMesh

end
-- ==== Proof.Partial.lean ====
module

public import proofs.«01_k».proof.Proof.Mesh
public import proofs.«01_k».proof.Proof.Gen.KernelIdeal.Points
public import Idealize.ShloMosaic.Lib.Pipeline.FrameBody
public import Idealize.ShloMosaic.Lib.Pipeline.Value
public import Idealize.ShloMosaic.Lib.Ring

@[expose] public section

set_option maxRecDepth 16384

noncomputable section

namespace Cert.FlashMesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

/-! # The partial sums of one device

The first kernel call, on its grid of 16 by 2 points: each point reads one block of the queries, keys
and values and leaves one block of the weighted sums and one of the weights' sums. -/

variable {F : FTy → Type} [FloatOps F]

local notation "𝕄" => MT nD τ sig Unit (Elt F) ℕ UU ℕ

/-- The block of weighted sums a point leaves, from the blocks it reads, -/
def outU (q : Vec F S1x1x512 .bf16) (k v : Vec F S1x1024x512 .bf16) : Vec F S1x1x512 .f32 :=
  k0_pay2 (k0_pay4 v) k0_pay5 (k0_pay6 q k) k0_pay7
/-- and the block of the weights' sums. -/
def outL (q : Vec F S1x1x512 .bf16) (k : Vec F S1x1024x512 .bf16) : Vec F S1x1x512 .f32 :=
  k0_pay3 k0_pay5 (k0_pay6 q k) k0_pay7

theorem zero3 : (![0, 0, 0] : Fin 3 → Nat) = fun _ => 0 := by decide

/-- What a memref holds after one store of `w` over all of it. -/
theorem read_one_store {S : Shape} {e : EltTy} (M : Memref sig .tc .vmem S e) {off : Fin S.rank → Nat} (h : off = fun _ => 0)
    (inb : ∀ a, off a + S.size a ≤ S.size a) (f : M.view.ty.Contents (Elt F)) (w w' : Vec F S e) (hw : w = w') :
    M.view.read (Elt F) (M.view.writes (Elt F) f [⟨Rect.unit off S.size inb, w⟩]) = w' := by
  rw [View.read_writes_eq_canon _ _ _ (fun y => ⟨_, List.mem_singleton_self _, View.mem_set_unit_zero h inb y⟩),
    View.canon_unit_zero h inb, hw]

set_option maxHeartbeats 1000000 in
/-- One point's body: the inputs stay, and the two outputs hold the point's sums. -/
theorem partialRun (c : Dev nD) (i : grid0.Coords)
    (a2 : Memref sig .tc .vmem S1x1x512 .bf16) (h2 : a2.IsWhole) (a3 : Memref sig .tc .vmem S1x1024x512 .bf16) (h3 : a3.IsWhole)
    (a4 : Memref sig .tc .vmem S1x1024x512 .bf16) (h4 : a4.IsWhole) (a5 : Memref sig .tc .vmem S1x1x512 .f32) (h5 : a5.IsWhole)
    (a6 : Memref sig .tc .vmem S1x1x512 .f32) (h6 : a6.IsWhole)
    (q : Vec F S1x1x512 .bf16) (k v : Vec F S1x1024x512 .bf16) (Kt : PUnit → sProp 𝕄) :
    iprop(owns (c : Thread nD τ) a2 fullShare q ∗ owns (c : Thread nD τ) a3 fullShare k ∗ owns (c : Thread nD τ) a4 fullShare v
        ∗ (∃ d, owns (c : Thread nD τ) a5 fullShare d) ∗ (∃ d, owns (c : Thread nD τ) a6 fullShare d)
        ∗ (owns (c : Thread nD τ) a2 fullShare q ∗ owns (c : Thread nD τ) a3 fullShare k ∗ owns (c : Thread nD τ) a4 fullShare v
            ∗ owns (c : Thread nD τ) a5 fullShare (outU q k v) ∗ owns (c : Thread nD τ) a6 fullShare (outL q k) -∗ Kt ⟨⟩))
      ⊢ wp frame (wpE (defs₀ (F := F)) 𝒱₀ c none) Set.univ (cc0_partial_body i a2 h2 a3 h3 a4 h4 a5 h5 a6 h6) Kt := by
  simp only [cc0_partial_body_eq_skeleton]; unfold cc0_partial_body_skel
  simp only [k0_part1_eq_skeleton]
  unfold owns
  iintro ⟨⟨%fq, %hq, Hq⟩, ⟨%fk, %hk, Hk⟩, ⟨%fv, %hv, Hv⟩, ⟨%du, %fu, -, Hu⟩, ⟨%dl, %fl, -, Hl⟩, Hc⟩
  subst hq hk hv
  sl_exec
  sl_step
  iapply Hc
  isplitl [Hq]; · iexists fq; isplitr; · ipureintro; rfl
                  iexact Hq
  isplitl [Hk]; · iexists fk; isplitr; · ipureintro; rfl
                  iexact Hk
  isplitl [Hv]; · iexists fv; isplitr; · ipureintro; rfl
                  iexact Hv
  isplitl [Hu]
  · iexists _; isplitr
    swap; · iexact Hu
    ipureintro
    refine read_one_store a5 zero3 _ _ _ _ ?_
    unfold partialRun.sl.r partialRun.sl.r_1 outU
    exact congrArg₂ (fun x y => k0_pay2 (k0_pay4 x) k0_pay5 y k0_pay7) (View.ld_unit_zero (S := S1x1024x512) zero3 inb_S1x1024x512_S1x1024x512_0_0_0 _)
      (congrArg₂ k0_pay6 (View.ld_unit_zero (S := S1x1x512) zero3 inb_S1x1x512_S1x1x512_0_0_0 _)
        (View.ld_unit_zero (S := S1x1024x512) zero3 inb_S1x1024x512_S1x1024x512_0_0_0 _))
  · iexists _; isplitr
    swap; · iexact Hl
    ipureintro
    refine read_one_store a6 zero3 _ _ _ _ ?_
    unfold partialRun.sl.r_1 outL
    exact congrArg (fun y => k0_pay3 k0_pay5 y k0_pay7)
      (congrArg₂ k0_pay6 (View.ld_unit_zero (S := S1x1x512) zero3 inb_S1x1x512_S1x1x512_0_0_0 _)
        (View.ld_unit_zero (S := S1x1024x512) zero3 inb_S1x1024x512_S1x1024x512_0_0_0 _))

variable (V : Dev nD → Valuation τ sig (Elt F)) (O : Dev nD → CellTallies nD τ sig Unit)

/-- Window `w`'s block at point `t`, of its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first call's data on device `c`: the arrays it finds, each input's block left in place and each
    output's at the point's sums, the buffers nothing stages put by, and the debt `O c` throughout. -/
def dat0 (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => outU (blk0 V c 0 t) (blk0 V c 1 t) (blk0 V c 2 t)
    | ⟨4, _⟩ => outL (blk0 V c 0 t) (blk0 V c 1 t)
  Φ _ := Pipeline.scopedRest spec0 c
  q _ := fullShare
  owed _ := O c

theorem dat0_A (c : Dev nD) (w : Fin cfg0.W) : (dat0 V O c).A w = V c (Pipeline.arrRef spec0 w) := by dsimp only [dat0]
theorem after_q (c : Dev nD) (t : Fin cfg0.N) : (dat0 V O c).after 0 t = blk0 V c 0 t := by dsimp only [dat0]
theorem after_k (c : Dev nD) (t : Fin cfg0.N) : (dat0 V O c).after 1 t = blk0 V c 1 t := by dsimp only [dat0]
theorem after_v (c : Dev nD) (t : Fin cfg0.N) : (dat0 V O c).after 2 t = blk0 V c 2 t := by dsimp only [dat0]
theorem after_U (c : Dev nD) (t : Fin cfg0.N) : (dat0 V O c).after 3 t = outU (blk0 V c 0 t) (blk0 V c 1 t) (blk0 V c 2 t) := by
  dsimp only [dat0]
theorem after_L (c : Dev nD) (t : Fin cfg0.N) : (dat0 V O c).after 4 t = outL (blk0 V c 0 t) (blk0 V c 1 t) := by dsimp only [dat0]

/-- At every point each input's staging buffer holds its block. -/
theorem before_q (c : Dev nD) (t : Fin cfg0.N) (d) : (dat0 V O c).before 0 t d = blk0 V c 0 t :=
  ((dat0 V O c).before_in_eq_fetched 0 rfl (fun _ => rfl) (fun _ _ _ => rfl)
    (fun t => by rw [after_q]; unfold Dat.blockOf blk0; rw [dat0_A]) t d).trans (by unfold Dat.fetched Dat.blockOf blk0; rw [dat0_A]; rfl)
theorem before_k (c : Dev nD) (t : Fin cfg0.N) (d) : (dat0 V O c).before 1 t d = blk0 V c 1 t :=
  ((dat0 V O c).before_in_eq_fetched 1 rfl (fun _ => rfl) (fun _ _ _ => rfl)
    (fun t => by rw [after_k]; unfold Dat.blockOf blk0; rw [dat0_A]) t d).trans (by unfold Dat.fetched Dat.blockOf blk0; rw [dat0_A]; rfl)
theorem before_v (c : Dev nD) (t : Fin cfg0.N) (d) : (dat0 V O c).before 2 t d = blk0 V c 2 t :=
  ((dat0 V O c).before_in_eq_fetched 2 rfl (fun _ => rfl) (fun _ _ _ => rfl)
    (fun t => by rw [after_v]; unfold Dat.blockOf blk0; rw [dat0_A]) t d).trans (by unfold Dat.fetched Dat.blockOf blk0; rw [dat0_A]; rfl)

/-- What a point's body is called with, -/
def pre0 (c : Dev nD) (t : Fin cfg0.N) : sProp 𝕄 :=
  iprop((dat0 V O c).Φ t.castSucc ∗ (dat0 V O c).owesAt () t.castSucc
    ∗ (∃ d, owns (c : Thread nD τ) (st0_0 t) fullShare ((dat0 V O c).before 0 t d))
    ∗ (∃ d, owns (c : Thread nD τ) (st0_1 t) fullShare ((dat0 V O c).before 1 t d))
    ∗ (∃ d, owns (c : Thread nD τ) (st0_2 t) fullShare ((dat0 V O c).before 2 t d))
    ∗ (∃ d, owns (c : Thread nD τ) (st0_3 t) fullShare ((dat0 V O c).before 3 t d))
    ∗ (∃ d, owns (c : Thread nD τ) (st0_4 t) fullShare ((dat0 V O c).before 4 t d)))
/-- and what it gives back. -/
def post0 (c : Dev nD) (t : Fin cfg0.N) : sProp 𝕄 :=
  iprop((dat0 V O c).Φ t.succ ∗ (dat0 V O c).owesAt () t.succ
    ∗ owns (c : Thread nD τ) (st0_0 t) fullShare ((dat0 V O c).after 0 t)
    ∗ owns (c : Thread nD τ) (st0_1 t) fullShare ((dat0 V O c).after 1 t)
    ∗ owns (c : Thread nD τ) (st0_2 t) fullShare ((dat0 V O c).after 2 t)
    ∗ owns (c : Thread nD τ) (st0_3 t) fullShare ((dat0 V O c).after 3 t)
    ∗ owns (c : Thread nD τ) (st0_4 t) fullShare ((dat0 V O c).after 4 t))

/-- The body at any point, in the pipeline's terms. -/
theorem body0_at (c : Dev nD) (t : Fin cfg0.N) :
    pre0 V O c t ⊢ wp frame (wpE (defs₀ (F := F)) 𝒱₀ c none) Set.univ (bodyAt0 t) (fun _ => post0 V O c t) := by
  unfold pre0 post0 bodyAt0
  simp only [before_q, before_k, before_v]
  rw [show (dat0 V O c).Φ t.succ = (dat0 V O c).Φ t.castSucc from rfl,
    show (dat0 V O c).owesAt () t.succ = (dat0 V O c).owesAt () t.castSucc from rfl,
    after_q, after_k, after_v, after_U, after_L]
  iintro ⟨HΦ, Ho, ⟨%dq, Hq⟩, ⟨%dk, Hk⟩, ⟨%dv, Hv⟩, ⟨%du, Hu⟩, ⟨%dl, Hl⟩⟩
  iapply (partialRun c (grid0.coords t) _ _ _ _ _ _ _ _ _ _ (blk0 V c 0 t) (blk0 V c 1 t) (blk0 V c 2 t) _)
  isplitl [Hq]; · iexact Hq
  isplitl [Hk]; · iexact Hk
  isplitl [Hv]; · iexact Hv
  isplitl [Hu]; · iexists _; iexact Hu
  isplitl [Hl]; · iexists _; iexact Hl
  iintro ⟨Hq, Hk, Hv, Hu, Hl⟩
  isplitl [HΦ]; · iexact HΦ
  isplitl [Ho]; · iexact Ho
  isplitl [Hq]; · iexact Hq
  isplitl [Hk]; · iexact Hk
  isplitl [Hv]; · iexact Hv
  isplitl [Hu]; · iexact Hu
  iexact Hl

theorem row0 (t : Fin cfg0.N) : defs₀ (F := F) .tc cfg0.body (cfg0.bodyArgs t (cfg0.slots t)) = bodyAt0 t := by
  unfold defs₀; rw [Defs.onTc_tc]

/-- The first call's body does its part at every point. -/
theorem body0 (c : Dev nD) : BodyObligation (dat0 (F := F) V O c) (defs₀ (F := F)) 𝒱₀ () Set.univ := fun t => by
  rw [bigSep_W0, bigSep_W0, row0]
  exact triple_restated (body0_at V O c t) rfl .rfl fun _ => .rfl

/-- The whole array of weighted sums the first call leaves, -/
def sumU (c : Dev nD) : Vec F S16x1x1024 .f32 := (dat0 V O c).arrAt 3 cfg0.N
/-- and of the weights' sums. -/
def sumL (c : Dev nD) : Vec F S16x1x1024 .f32 := (dat0 V O c).arrAt 4 cfg0.N

end Cert.FlashMesh

end
-- ==== Proof.Merge.lean ====
module

public import proofs.«01_k».proof.Proof.Partial

@[expose] public section

set_option maxRecDepth 16384

noncomputable section

namespace Cert.FlashMesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

/-! # The exchange and the quotient

The second kernel call: signal the partner and wait for its signal, send it both arrays of sums, wait
for all four ends of the two transfers, and store the quotient of the added sums. -/

variable {F : FTy → Type} [FloatOps F]

local notation "𝕄" => MT nD τ sig Unit (Elt F) ℕ UU ℕ

/-! ## The semaphores by their numbers -/

theorem snd0_sem : ((cc1_scratch2.slice (Rect.unit (s := S2) ![0] S1.size inb_S2_S1_0)).squeeze S_ squeezes_S1_S_).sem = sndS 0 := by decide
theorem snd1_sem : ((cc1_scratch2.slice (Rect.unit (s := S2) ![1] S1.size inb_S2_S1_1)).squeeze S_ squeezes_S1_S_).sem = sndS 1 := by decide
theorem rcv0_sem : ((cc1_scratch3.slice (Rect.unit (s := S2) ![0] S1.size inb_S2_S1_0)).squeeze S_ squeezes_S1_S_).sem = rcvS 0 := by decide
theorem rcv1_sem : ((cc1_scratch3.slice (Rect.unit (s := S2) ![1] S1.size inb_S2_S1_1)).squeeze S_ squeezes_S1_S_).sem = rcvS 1 := by decide

/-! ## What the exchange holds -/

variable (A : Fin 2 → Dev nD → Vec F S16x1x1024 .f32)

/-- Of the two barrier cells: both invariants, the own position, and the right to signal. -/
def barPart (K : GSem nD τ sig → ℕ) (c : Dev nD) : sProp 𝕄 :=
  iprop(cellInv EX (Rd A) (K (barCell c)) (barCell c) ∗ cellInv EX (Rd A) (K (barCell (pr c))) (barCell (pr c))
    ∗ atPos EX (barCell c) 0 ∅ 0 ∗ reached EX (barCell (pr c)) 0 ∗ dutyTok EX (barCell (pr c)) 0 () ∗ cred (tallyAt (barCell c) () 1))

/-- Of transfer `i`, before the call: its three invariants, the right to open the two own cells, the
    right to pay its two duties, and the credit of the own arrival. -/
def lanePart (K : GSem nD τ sig → ℕ) (i : Fin 2) (c : Dev nD) : sProp 𝕄 :=
  iprop(cellInv EX (Rd A) (K (dmaCell c (sndS i))) (dmaCell c (sndS i)) ∗ cellInv EX (Rd A) (K (dmaCell c (rcvS i))) (dmaCell c (rcvS i))
    ∗ cellInv EX (Rd A) (K (dmaCell (pr c) (rcvS i))) (dmaCell (pr c) (rcvS i))
    ∗ openTok EX (dmaCell c (sndS i)) ∗ openTok EX (dmaCell c (rcvS i))
    ∗ dutyTok EX (dmaCell c (sndS i)) 0 () ∗ dutyTok EX (dmaCell (pr c) (rcvS i)) 0 () ∗ cred (tallyAt (dmaCell c (rcvS i)) () N))

/-- The same with the two own cells open. -/
def laneOpen (K : GSem nD τ sig → ℕ) (i : Fin 2) (c : Dev nD) : sProp 𝕄 :=
  iprop(cellInv EX (Rd A) (K (dmaCell c (sndS i))) (dmaCell c (sndS i)) ∗ cellInv EX (Rd A) (K (dmaCell c (rcvS i))) (dmaCell c (rcvS i))
    ∗ cellInv EX (Rd A) (K (dmaCell (pr c) (rcvS i))) (dmaCell (pr c) (rcvS i))
    ∗ (atPos EX (dmaCell c (sndS i)) 0 ∅ 0 ∗ reached EX (dmaCell c (sndS i)) 0)
    ∗ (atPos EX (dmaCell c (rcvS i)) 0 ∅ 0 ∗ reached EX (dmaCell c (rcvS i)) 0)
    ∗ dutyTok EX (dmaCell c (sndS i)) 0 () ∗ dutyTok EX (dmaCell (pr c) (rcvS i)) 0 () ∗ cred (tallyAt (dmaCell c (rcvS i)) () N))

/-- Opening the two own cells of a transfer takes their counters, at zero. -/
theorem lane_open (K : GSem nD τ sig → ℕ) (i : Fin 2) (c : Dev nD) :
    iprop(lanePart A K i c ∗ semVal (dmaCell c (sndS i)) 0 ∗ semVal (dmaCell c (rcvS i)) 0) ⊢ (|={Set.univ}=> laneOpen A K i c : sProp 𝕄) := by
  unfold lanePart laneOpen
  iintro ⟨⟨#HIs, #HIr, #HIp, Hos, Hor, HtS, HtR, Hc⟩, Hs, Hr⟩
  imod (Rounds.cell_open EX (Rd A) (g := dmaCell c (sndS i)) (Set.mem_univ (K (dmaCell c (sndS i))))) $$ [Hos Hs] with Hs
  · isplitr; · iexact HIs
    isplitl [Hos]; · iexact Hos
    iexact Hs
  imod (Rounds.cell_open EX (Rd A) (g := dmaCell c (rcvS i)) (Set.mem_univ (K (dmaCell c (rcvS i))))) $$ [Hor Hr] with Hr
  · isplitr; · iexact HIr
    isplitl [Hor]; · iexact Hor
    iexact Hr
  imodintro
  isplitr; · iexact HIs
  isplitr; · iexact HIr
  isplitr; · iexact HIp
  isplitl [Hs]; · iexact Hs
  isplitl [Hr]; · iexact Hr
  isplitl [HtS]; · iexact HtS
  isplitl [HtR]; · iexact HtR
  iexact Hc

/-- The result on device `c`: the added weighted sums over the added weights' sums. -/
def merged (c : Dev nD) : Vec F S16x1x1024 .f32 := k1_pay1 (k1_pay2 (A 0 c) (A 0 (pr c))) (A 1 c) (A 1 (pr c))

/-- The buffer the result is staged in. -/
abbrev outM : Memref sig .tc .vmem S16x1x1024 .f32 := Memref.whole cc1_stg2_0

/-- What the second call's body starts from, -/
def mergePre (K : GSem nD τ sig → ℕ) (c : Dev nD) (W : Waits sig Unit) : sProp 𝕄 :=
  iprop(barPart A K c ∗ laneOpen A K 0 c ∗ laneOpen A K 1 c ∗ levAts L lv
    ∗ owns (c : Thread nD τ) (stgM 0) fullShare (A 0 c) ∗ owns (c : Thread nD τ) (stgM 1) fullShare (A 1 c)
    ∗ (∃ X, owns (c : Thread nD τ) outM fullShare X)
    ∗ (∃ X, owns (c : Thread nD τ) (slotM 0) fullShare X) ∗ (∃ X, owns (c : Thread nD τ) (slotM 1) fullShare X)
    ∗ owes (c : Thread nD τ) (owed0 c) W)

/-- and what it leaves: all five counters back at zero, the staged sums as they were, the result, and no debt. -/
def mergePost (c : Dev nD) : sProp 𝕄 :=
  iprop(semVal (barCell c) 0 ∗ (semVal (dmaCell c (sndS 0)) 0 ∗ semVal (dmaCell c (sndS 1)) 0 ∗ semVal (dmaCell c (rcvS 0)) 0 ∗ semVal (dmaCell c (rcvS 1)) 0)
    ∗ owns (c : Thread nD τ) (stgM 0) fullShare (A 0 c) ∗ owns (c : Thread nD τ) (stgM 1) fullShare (A 1 c)
    ∗ owns (c : Thread nD τ) outM fullShare (merged A c)
    ∗ (∃ X, owns (c : Thread nD τ) (slotM 0) fullShare X) ∗ (∃ X, owns (c : Thread nD τ) (slotM 1) fullShare X)
    ∗ ∃ W, owes (c : Thread nD τ) (0 : CellTallies nD τ sig Unit) W)

/-- The second call's body, on the buffers the pipeline stages for it. -/
abbrev mergeBody : Prog (TpuEff nD τ sig (Elt F) Λ₀ .tc) PUnit :=
  cc1_merge_body (stgM 0) (Memref.isWhole_whole _) (stgM 1) (Memref.isWhole_whole _) outM (Memref.isWhole_whole _)
    (slotM 0) (Memref.isWhole_whole _) (slotM 1) (Memref.isWhole_whole _) cc1_scratch2 cc1_scratch3

/-- Ownership of a memref, by the contents of its buffer. -/
theorem owns_open (c : Dev nD) (M : Memref sig .tc .vmem S16x1x1024 .f32) (X : Vec F S16x1x1024 .f32) :
    (owns (c : Thread nD τ) M fullShare X : sProp 𝕄)
      ⊢ iprop(∃ f, ⌜M.view.read (Elt F) f = X⌝ ∗ (M.view.loc (c : Thread nD τ) ↦[M.view.set]{fullShare} f)) := .rfl

theorem pay_snd_open (i : Fin 2) (c : Dev nD) :
    (pay A c (.dma (sndS i)) : sProp 𝕄)
      ⊢ iprop(∃ f, ⌜(stgM i).view.read (Elt F) f = A i c⌝ ∗ ((stgM i).view.loc (c : Thread nD τ) ↦[(stgM i).view.set]{fullShare} f)) :=
  (Entails.of_eq (pay_snd A i c)).trans (owns_open c (stgM i) _)

theorem pay_rcv_open (i : Fin 2) (c : Dev nD) :
    (pay A c (.dma (rcvS i)) : sProp 𝕄)
      ⊢ iprop(∃ f, ⌜(slotM i).view.read (Elt F) f = A i (pr c)⌝ ∗ ((slotM i).view.loc (c : Thread nD τ) ↦[(slotM i).view.set]{fullShare} f)) :=
  (Entails.of_eq (pay_rcv A i c)).trans (owns_open c (slotM i) _)

/-- The rectangle that is all of a buffer of sums. -/
abbrev allR : Rect S16x1x1024 := Rect.unit (s := S16x1x1024) ![0, 0, 0] S16x1x1024.size inb_S16x1x1024_S16x1x1024_0_0_0

/-- Loading all of a buffer of sums reads it. -/
theorem load_all (M : Memref sig .tc .vmem S16x1x1024 .f32) (f : M.view.ty.Contents (Elt F)) (X : Vec F S16x1x1024 .f32)
    (h : M.view.read (Elt F) f = X) : M.view.readAt (Elt F) allR.toLoadRect f = X :=
  (View.ld_unit_zero (S := S16x1x1024) zero3 inb_S16x1x1024_S16x1x1024_0_0_0 (M.view.read (Elt F) f)).trans h

/-- What the one store leaves in the result's buffer, from what the four loads read. -/
theorem merged_stored (c : Dev nD) (f₀ f₁ g₀ g₁) (h₀ : (stgM 0).view.read (Elt F) f₀ = A 0 c) (h₁ : (stgM 1).view.read (Elt F) f₁ = A 1 c)
    (k₀ : (slotM 0).view.read (Elt F) g₀ = A 0 (pr c)) (k₁ : (slotM 1).view.read (Elt F) g₁ = A 1 (pr c)) (fy : outM.view.ty.Contents (Elt F)) :
    outM.view.read (Elt F) (outM.view.writes (Elt F) fy [⟨allR,
        k1_pay1 (k1_pay2 ((stgM 0).view.readAt (Elt F) allR.toLoadRect f₀) ((slotM 0).view.readAt (Elt F) allR.toLoadRect g₀))
          ((stgM 1).view.readAt (Elt F) allR.toLoadRect f₁) ((slotM 1).view.readAt (Elt F) allR.toLoadRect g₁)⟩]) = merged A c := by
  refine read_one_store outM zero3 _ _ _ _ ?_
  rw [load_all _ _ _ h₀, load_all _ _ _ h₁, load_all _ _ _ k₀, load_all _ _ _ k₁]; rfl

set_option maxHeartbeats 1000000 in
/-- The second call's body runs from `mergePre` to `mergePost`. -/
theorem mergeRun (K : GSem nD τ sig → ℕ) (c : Dev nD) (W : Waits sig Unit) (Kt : PUnit → sProp 𝕄) :
    iprop(mergePre A K c W ∗ (mergePost A c -∗ Kt ⟨⟩))
      ⊢ wp frame (wpE (defs₀ (F := F)) 𝒱₀ c none) Set.univ (mergeBody (F := F)) Kt := by
  unfold mergeBody
  simp only [cc1_merge_body_eq_skeleton]; unfold cc1_merge_body_skel
  simp only [k1_part1_eq_skeleton, k1_part2_eq_skeleton]; unfold k1_part1_skel k1_part2_skel
  simp only [semSignalWord, semWaitWord, Prog.lift, Prog.bind_op, Prog.bind_ret, Prog.pure_eq_ret, wp_deviceId]
  unfold mergePre barPart laneOpen
  iintro ⟨⟨⟨#HIb, #HIbp, HatB, #HrB, HtB, HcB⟩, ⟨#HIs0, #HIr0, #HIp0, ⟨HatS0, #HrS0⟩, ⟨HatR0, #HrR0⟩, HtS0, HtP0, HcR0⟩, ⟨#HIs1, #HIr1, #HIp1, ⟨HatS1, #HrS1⟩, ⟨HatR1, #HrR1⟩, HtS1, HtP1, HcR1⟩, #Hlev, Hx0, Hx1, Hy, Hz0, Hz1, HO⟩, Hk⟩
  simp only [to_pr1 c]
  iapply (Rounds.wp_signal 𝒱₀ EX (Rd A) (c : Thread nD τ) none (dst := (pr c : Thread nD τ)) (κ := K (barCell (pr c)))
      (duty_mem A (pr c) (.reg barS) trivial) (by rfl) () (owed2 c) rfl) $$ [HO HtB Hz0 Hz1]
  · isplitr; · iexact HIbp
    isplitl [HO]; · iexact HO
    isplitl [HtB]; · iexact HtB
    isplitl [Hz0 Hz1]
    · rw [show (Rd (F := F) A).payload (barCell (pr c)) 0 () = barPay (pr c) from rfl]
      unfold barPay; rw [pr_pr]
      isplitl [Hz0]; · iexact Hz0
      isplitl [Hz1]; · iexact Hz1
      isplitr; · iexact HrR0
      iexact HrR1
    · iexact HrB
  iintro HO
  iapply (Rounds.wp_wait_rest_token 𝒱₀ EX (Rd A) (c : Thread nD τ) none (κ := K (barCell c))
      (wpE_semWait_eq 𝒱₀ (c : Thread nD τ) none Set.univ) (Set.mem_univ _) () (O := owed2 c) (W := W) (R := 0) (m := 0) (T := ∅)
      ((Nat.zero_add _).trans (expect_of A c (.reg barS) trivial).symm)) $$ [HcB HO HatB]
  · isplitr; · iexact HIb
    isplitl [HcB]; · iexact HcB
    isplitl [HO]; · iexact HO
    isplitr; · iapply (mayWait_bar c); iexact Hlev
    iexact HatB
  iintro ⟨HO, HatB, -, Hp⟩
  ihave Hp := (Entails.of_eq (rest_of A c (.reg barS) trivial)) $$ Hp
  ihave Hp := (show pay A c (.reg barS) ⊢ barPay c from .rfl) $$ Hp
  unfold barPay
  icases Hp with ⟨Hw0, Hw1, #HrP0, #HrP1⟩
  simp only [snd0_sem, snd1_sem, rcv0_sem, rcv1_sem]
  iapply (send_step A c K 0 _ (to_pr2 c) (tallyAt (dmaCell (pr c) (rcvS 1)) () N) (insert (SemLoc.reg barS, ()) W)) $$ [Hx0 Hw0 HO HtS0 HtP0]
  · isplitr; · iexact HIs0
    isplitr; · iexact HIp0
    isplitl [Hx0]; · iexact Hx0
    isplitl [Hw0]; · iexact Hw0
    isplitl [HO]; · iexact HO
    isplitl [HtS0]; · iexact HtS0
    isplitr; · iexact HrS0
    isplitl [HtP0]; · iexact HtP0
    iexact HrP0
  iintro ⟨HcS0, HO⟩
  iapply (send_step A c K 1 _ (to_pr3 c) 0 (insert (SemLoc.reg barS, ()) W)) $$ [Hx1 Hw1 HO HtS1 HtP1]
  · isplitr; · iexact HIs1
    isplitr; · iexact HIp1
    isplitl [Hx1]; · iexact Hx1
    isplitl [Hw1]; · iexact Hw1
    isplitl [HO]; · rw [zero_add]; iexact HO
    isplitl [HtS1]; · iexact HtS1
    isplitr; · iexact HrS1
    isplitl [HtP1]; · iexact HtP1
    iexact HrP1
  iintro ⟨HcS1, HO⟩
  iapply (wait_step A c (K (dmaCell c (sndS 0))) (sndS 0) (snd_ge 0) _ (credit_stg 0)) $$ [HcS0 HO HatS0]
  · isplitr; · iexact HIs0
    isplitl [HcS0]; · iexact HcS0
    isplitl [HO]; · iexact HO
    iexact HatS0
  iintro ⟨HO, HatS0, Hx0⟩
  iapply (wait_step A c (K (dmaCell c (rcvS 0))) (rcvS 0) (rcv_ge 0) _ (credit_slot 0)) $$ [HcR0 HO HatR0]
  · isplitr; · iexact HIr0
    isplitl [HcR0]; · iexact HcR0
    isplitl [HO]; · iexact HO
    iexact HatR0
  iintro ⟨HO, HatR0, Hz0⟩
  iapply (wait_step A c (K (dmaCell c (sndS 1))) (sndS 1) (snd_ge 1) _ (credit_stg 1)) $$ [HcS1 HO HatS1]
  · isplitr; · iexact HIs1
    isplitl [HcS1]; · iexact HcS1
    isplitl [HO]; · iexact HO
    iexact HatS1
  iintro ⟨HO, HatS1, Hx1⟩
  iapply (wait_step A c (K (dmaCell c (rcvS 1))) (rcvS 1) (rcv_ge 1) _ (credit_slot 1)) $$ [HcR1 HO HatR1]
  · isplitr; · iexact HIr1
    isplitl [HcR1]; · iexact HcR1
    isplitl [HO]; · iexact HO
    iexact HatR1
  iintro ⟨HO, HatR1, Hz1⟩
  ihave Hx0 := (pay_snd_open A 0 c) $$ Hx0
  ihave Hx1 := (pay_snd_open A 1 c) $$ Hx1
  ihave Hz0 := (pay_rcv_open A 0 c) $$ Hz0
  ihave Hz1 := (pay_rcv_open A 1 c) $$ Hz1
  icases Hx0 with ⟨%fx0, %hx0, Hx0⟩
  icases Hx1 with ⟨%fx1, %hx1, Hx1⟩
  icases Hz0 with ⟨%fz0, %hz0, Hz0⟩
  icases Hz1 with ⟨%fz1, %hz1, Hz1⟩
  icases Hy with ⟨%Y, Hy⟩
  ihave Hy := (owns_open c outM Y) $$ Hy
  icases Hy with ⟨%fy, -, Hy⟩
  sl_exec
  rw [wp_ret]
  imod (shut A (K (barCell c)) (barCell c)) $$ [HatB] with HvB
  · isplitr; · iexact HIb
    iexact HatB
  imod (shut A (K (dmaCell c (sndS 0))) (dmaCell c (sndS 0))) $$ [HatS0] with Hv0
  · isplitr; · iexact HIs0
    iexact HatS0
  imod (shut A (K (dmaCell c (sndS 1))) (dmaCell c (sndS 1))) $$ [HatS1] with Hv1
  · isplitr; · iexact HIs1
    iexact HatS1
  imod (shut A (K (dmaCell c (rcvS 0))) (dmaCell c (rcvS 0))) $$ [HatR0] with Hv2
  · isplitr; · iexact HIr0
    iexact HatR0
  imod (shut A (K (dmaCell c (rcvS 1))) (dmaCell c (rcvS 1))) $$ [HatR1] with Hv3
  · isplitr; · iexact HIr1
    iexact HatR1
  imodintro
  iapply Hk
  unfold mergePost
  isplitl [HvB]; · iexact HvB
  isplitl [Hv0 Hv1 Hv2 Hv3]
  · isplitl [Hv0]; · iexact Hv0
    isplitl [Hv1]; · iexact Hv1
    isplitl [Hv2]; · iexact Hv2
    iexact Hv3
  isplitl [Hx0]; · rw [← hx0]; iapply (owns_intro (c : Thread nD τ) (stgM 0) fullShare fx0); iexact Hx0
  isplitl [Hx1]; · rw [← hx1]; iapply (owns_intro (c : Thread nD τ) (stgM 1) fullShare fx1); iexact Hx1
  isplitl [Hy]
  · rw [← merged_stored A c fx0 fx1 fz0 fz1 hx0 hx1 hz0 hz1 fy]
    iapply (owns_intro (c : Thread nD τ) outM fullShare _); iexact Hy
  isplitl [Hz0]; · iexists _; iapply (owns_intro (c : Thread nD τ) (slotM 0) fullShare fz0); iexact Hz0
  isplitl [Hz1]; · iexists _; iapply (owns_intro (c : Thread nD τ) (slotM 1) fullShare fz1); iexact Hz1
  iexists _; iexact HO

end Cert.FlashMesh

end
-- ==== Proof.Calls.lean ====
module

public import proofs.«01_k».proof.Proof.Merge
public import proofs.«01_k».proof.Proof.Gen.KernelIdeal.Regions
public import Idealize.ShloMosaic.Lib.Pipeline.RegionTalk
public import Idealize.ShloMosaic.Lib.Pipeline.RegionArrays
public import Idealize.ShloMosaic.Lib.Pipeline.Regions
public import Idealize.ShloMosaic.Lib.Pipeline.Kit
public import Idealize.ShloMosaic.Lib.Pipeline.ValueKit

@[expose] public section

set_option maxRecDepth 16384

noncomputable section

namespace Cert.FlashMesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

/-! # The two kernel calls as segments of the program

Each call is entered from the device's buffers at one valuation and left at the next; what the
exchange holds rides along the first call and is used up by the second. -/

variable {F : FTy → Type} [FloatOps F]

local notation "𝕄" => MT nD τ sig Unit (Elt F) ℕ UU ℕ

/-! ## The second call's data -/

section Second

variable (V : Dev nD → Valuation τ sig (Elt F))

/-- The two arrays of sums the second call finds. -/
def arrs (i : Fin 2) (c : Dev nD) : Vec F S16x1x1024 .f32 :=
  match i with
  | 0 => V c main_v7_0
  | 1 => V c main_v7_1

/-- What the exchange holds as the body starts, whatever the invariants are named. -/
def opened (c : Dev nD) : sProp 𝕄 :=
  iprop(∃ K, barPart (arrs V) K c ∗ laneOpen (arrs V) K 0 c ∗ laneOpen (arrs V) K 1 c)
/-- What it holds between launch and that call. -/
def dormant (c : Dev nD) : sProp 𝕄 :=
  iprop(∃ K, barPart (arrs V) K c ∗ lanePart (arrs V) K 0 c ∗ lanePart (arrs V) K 1 c)

/-- The four counters of the transfers, at zero. -/
def ownSems (c : Dev nD) : sProp 𝕄 :=
  iprop(semVal (dmaCell c (sndS 0)) 0 ∗ semVal (dmaCell c (sndS 1)) 0 ∗ semVal (dmaCell c (rcvS 0)) 0 ∗ semVal (dmaCell c (rcvS 1)) 0)

/-- The second call's data on device `c`: its one point spends what the exchange holds and pays the debt. -/
def dat1 (c : Dev nD) : Dat τ (Elt F) Unit ℕ UU ℕ cfg1 c where
  A w := V c (Pipeline.arrRef spec1 w)
  after w _ := match w with
    | ⟨0, _⟩ => arrs V 0 c
    | ⟨1, _⟩ => arrs V 1 c
    | ⟨2, _⟩ => merged (arrs V) c
  Φ t := if t.val = 0 then iprop(opened V c ∗ levAts L lv ∗ Pipeline.scopedRest spec1 c ∗ ∃ r, prngReg c r)
    else iprop(semVal (barCell c) 0 ∗ ownSems c ∗ Pipeline.scopedRest spec1 c ∗ ∃ r, prngReg c r)
  q _ := fullShare
  owed t := if t.val = 0 then owed0 c else 0

theorem dat1_A (c : Dev nD) (w : Fin cfg1.W) : (dat1 V c).A w = V c (Pipeline.arrRef spec1 w) := by dsimp only [dat1]
theorem dat1_after0 (c : Dev nD) (t : Fin cfg1.N) : (dat1 V c).after 0 t = arrs V 0 c := by dsimp only [dat1]
theorem dat1_after1 (c : Dev nD) (t : Fin cfg1.N) : (dat1 V c).after 1 t = arrs V 1 c := by dsimp only [dat1]
theorem dat1_after2 (c : Dev nD) (t : Fin cfg1.N) : (dat1 V c).after 2 t = merged (arrs V) c := by dsimp only [dat1]

/-- Each window's one block is all of its array. -/
theorem whole1_0 (t : Fin cfg1.N) (f : Vec F S16x1x1024 .f32) : ((cfg1.win 0).blk t).view.read (Elt F) f = f := by
  obtain rfl := fin_N1 t
  have hz : (fun a => win1_0.index t1_0 a * main_v7_0.ty.shape.size a) = fun _ => 0 := funext fun a => by fin_cases a <;> decide
  exact Memref.read_access_unit_zero (Elt F) main_v7_0 hz (fun a => by rw [congrFun hz a]; simp) f
theorem whole1_1 (t : Fin cfg1.N) (f : Vec F S16x1x1024 .f32) : ((cfg1.win 1).blk t).view.read (Elt F) f = f := by
  obtain rfl := fin_N1 t
  have hz : (fun a => win1_1.index t1_0 a * main_v7_1.ty.shape.size a) = fun _ => 0 := funext fun a => by fin_cases a <;> decide
  exact Memref.read_access_unit_zero (Elt F) main_v7_1 hz (fun a => by rw [congrFun hz a]; simp) f

/-- Each array of sums is staged whole before the one point, -/
theorem before1_0 (c : Dev nD) (t : Fin cfg1.N) (d) : (dat1 V c).before 0 t d = arrs V 0 c :=
  ((dat1 V c).before_fetched 0 t (fetch1_0 t) d).trans (whole1_0 t (arrs V 0 c))
theorem before1_1 (c : Dev nD) (t : Fin cfg1.N) (d) : (dat1 V c).before 1 t d = arrs V 1 c :=
  ((dat1 V c).before_fetched 1 t (fetch1_1 t) d).trans (whole1_1 t (arrs V 1 c))
/-- and the result is written whole after it. -/
theorem final1_2 (c : Dev nD) : (dat1 V c).arrAt 2 cfg1.N = merged (arrs V) c :=
  (dat1 V c).arrAt_eq_of_after_last 2 t1_0 (by decide +kernel) _ fun j => by rw [dat1_after2]; rfl

/-- The buffers no window of the second call stages are the two landing buffers and others, which stay put. -/
theorem landing_split (c : Dev nD) :
    (Pipeline.scopedRest spec1 c : sProp 𝕄)
      ⊢ iprop((∃ X, owns (c : Thread nD τ) (slotM 0) fullShare X) ∗ (∃ X, owns (c : Thread nD τ) (slotM 1) fullShare X)
        ∗ (((∃ X, owns (c : Thread nD τ) (slotM 0) fullShare X) ∗ (∃ X, owns (c : Thread nD τ) (slotM 1) fullShare X))
            -∗ Pipeline.scopedRest spec1 c)) := by
  rw [scopedRest1_eq]
  have e0 (X) : (owns (c : Thread nD τ) (slotM 0) fullShare X : sProp 𝕄) = (((c : Thread nD τ).loc cc1_scratch0) ↦{fullShare} X) :=
    owns_whole (c : Thread nD τ) cc1_scratch0 fullShare X
  have e1 (X) : (owns (c : Thread nD τ) (slotM 1) fullShare X : sProp 𝕄) = (((c : Thread nD τ).loc cc1_scratch1) ↦{fullShare} X) :=
    owns_whole (c : Thread nD τ) cc1_scratch1 fullShare X
  simp only [e0, e1]
  iintro ⟨B0, B1, B2, B3, B4, B5, B6, B7, B8, B9, Z0, Z1⟩
  isplitl [Z0]; · iexact Z0
  isplitl [Z1]; · iexact Z1
  iintro ⟨Z0, Z1⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [Z0]; · iexact Z0
  iexact Z1

theorem last_ne : ¬ (Fin.last cfg1.N).val = 0 := by rw [Fin.val_last, show cfg1.N = 1 from N_1]; decide
theorem succ_ne : ¬ (t1_0.succ : Fin (cfg1.N + 1)).val = 0 := by rw [Fin.val_succ]; exact Nat.succ_ne_zero _

theorem owed_eq (c : Dev nD) (t : Fin (cfg1.N + 1)) : (dat1 V c).owed t = if t.val = 0 then owed0 c else 0 := by dsimp only [dat1]
theorem owed_first (c : Dev nD) : (dat1 V c).owed 0 = owed0 c := (owed_eq V c 0).trans (if_pos rfl)
theorem owed_at (c : Dev nD) : (dat1 V c).owed t1_0.castSucc = owed0 c := (owed_eq V c _).trans (if_pos rfl)
theorem owed_last (c : Dev nD) : (dat1 V c).owed (Fin.last cfg1.N) = 0 := (owed_eq V c _).trans (if_neg last_ne)
theorem owed_after (c : Dev nD) : (dat1 V c).owed t1_0.succ = 0 := (owed_eq V c _).trans (if_neg succ_ne)

theorem phi_eq (c : Dev nD) (t : Fin (cfg1.N + 1)) :
    (dat1 V c).Φ t = if t.val = 0 then iprop(opened V c ∗ levAts L lv ∗ Pipeline.scopedRest spec1 c ∗ ∃ r, prngReg c r)
      else iprop(semVal (barCell c) 0 ∗ ownSems c ∗ Pipeline.scopedRest spec1 c ∗ ∃ r, prngReg c r) := by dsimp only [dat1]
theorem phi_first (c : Dev nD) :
    (dat1 V c).Φ 0 = iprop(opened V c ∗ levAts L lv ∗ Pipeline.scopedRest spec1 c ∗ ∃ r, prngReg c r) := (phi_eq V c 0).trans (if_pos rfl)
theorem phi_at (c : Dev nD) :
    (dat1 V c).Φ t1_0.castSucc = iprop(opened V c ∗ levAts L lv ∗ Pipeline.scopedRest spec1 c ∗ ∃ r, prngReg c r) :=
  (phi_eq V c _).trans (if_pos rfl)
theorem phi_last (c : Dev nD) :
    (dat1 V c).Φ (Fin.last cfg1.N) = iprop(semVal (barCell c) 0 ∗ ownSems c ∗ Pipeline.scopedRest spec1 c ∗ ∃ r, prngReg c r) :=
  (phi_eq V c _).trans (if_neg last_ne)
theorem phi_after (c : Dev nD) :
    (dat1 V c).Φ t1_0.succ = iprop(semVal (barCell c) 0 ∗ ownSems c ∗ Pipeline.scopedRest spec1 c ∗ ∃ r, prngReg c r) :=
  (phi_eq V c _).trans (if_neg succ_ne)

/-- A known debt is the data's debt, -/
theorem owes_in {cfg : Cfg sig Λ₀} {c : Dev nD} (dat : Dat τ (Elt F) Unit ℕ UU ℕ cfg c) (t : Fin (cfg.N + 1)) (O : CellTallies nD τ sig Unit)
    (h : dat.owed t = O) (hr : dat.recorded t = Set.univ) :
    (iprop(∃ W, owes (c : Thread nD τ) O W) : sProp 𝕄) ⊢ (dat.owesAt () t : sProp 𝕄) := by
  unfold Dat.owesAt Pipeline.owesWithin Dat.bound; rw [h, hr]
  iintro ⟨%W, HO⟩; iexists W
  isplitr; · ipureintro; exact fun _ _ => Or.inl trivial
  iexact HO
/-- and back. -/
theorem owes_out {cfg : Cfg sig Λ₀} {c : Dev nD} (dat : Dat τ (Elt F) Unit ℕ UU ℕ cfg c) (t : Fin (cfg.N + 1)) (O : CellTallies nD τ sig Unit)
    (h : dat.owed t = O) :
    (dat.owesAt () t : sProp 𝕄) ⊢ iprop(∃ W, owes (c : Thread nD τ) O W) := by
  unfold Dat.owesAt Pipeline.owesWithin; rw [h]
  iintro ⟨%W, -, HO⟩; iexists W; iexact HO

/-- What the second call's body is called with, -/
def pre1 (c : Dev nD) : sProp 𝕄 :=
  iprop((dat1 V c).Φ t1_0.castSucc ∗ (dat1 V c).owesAt () t1_0.castSucc
    ∗ (∃ d, owns (c : Thread nD τ) (st1_0 t1_0) fullShare ((dat1 V c).before 0 t1_0 d))
    ∗ (∃ d, owns (c : Thread nD τ) (st1_1 t1_0) fullShare ((dat1 V c).before 1 t1_0 d))
    ∗ (∃ d, owns (c : Thread nD τ) (st1_2 t1_0) fullShare ((dat1 V c).before 2 t1_0 d)))
/-- and what it gives back. -/
def post1 (c : Dev nD) : sProp 𝕄 :=
  iprop((dat1 V c).Φ t1_0.succ ∗ (dat1 V c).owesAt () t1_0.succ
    ∗ owns (c : Thread nD τ) (st1_0 t1_0) fullShare ((dat1 V c).after 0 t1_0)
    ∗ owns (c : Thread nD τ) (st1_1 t1_0) fullShare ((dat1 V c).after 1 t1_0)
    ∗ owns (c : Thread nD τ) (st1_2 t1_0) fullShare ((dat1 V c).after 2 t1_0))

/-- The second call's body, in the pipeline's terms. -/
theorem body1_at (c : Dev nD) :
    pre1 V c ⊢ wp frame (wpE (defs₀ (F := F)) 𝒱₀ c none) Set.univ (mergeBody (F := F)) (fun _ => post1 V c) := by
  unfold pre1 post1
  simp only [before1_0, before1_1]
  rw [phi_at, phi_after, dat1_after0, dat1_after1, dat1_after2]
  unfold opened
  iintro ⟨⟨⟨%K, Hb, H0, H1⟩, Hlev, Hrest, Hreg⟩, HO, ⟨%d0, Hx0⟩, ⟨%d1, Hx1⟩, ⟨%d2, Hy⟩⟩
  ihave HO := (owes_out (dat1 V c) t1_0.castSucc (owed0 c) (owed_at V c)) $$ HO
  icases HO with ⟨%W, HO⟩
  ihave Hrest := (landing_split c) $$ Hrest
  icases Hrest with ⟨Hz0, Hz1, Hback⟩
  iapply (mergeRun (arrs V) K c W _)
  isplitl [Hb H0 H1 Hlev Hx0 Hx1 Hy Hz0 Hz1 HO]
  · unfold mergePre
    isplitl [Hb]; · iexact Hb
    isplitl [H0]; · iexact H0
    isplitl [H1]; · iexact H1
    isplitl [Hlev]; · iexact Hlev
    isplitl [Hx0]; · iexact Hx0
    isplitl [Hx1]; · iexact Hx1
    isplitl [Hy]; · iexists _; iexact Hy
    isplitl [Hz0]; · iexact Hz0
    isplitl [Hz1]; · iexact Hz1
    iexact HO
  unfold mergePost ownSems
  iintro ⟨Hbar, Hsems, Hx0, Hx1, Hy, Hz0, Hz1, HO⟩
  isplitl [Hbar Hsems Hz0 Hz1 Hback Hreg]
  · isplitl [Hbar]; · iexact Hbar
    isplitl [Hsems]; · iexact Hsems
    isplitr [Hreg]
    · iapply Hback
      isplitl [Hz0]; · iexact Hz0
      iexact Hz1
    iexact Hreg
  isplitl [HO]; · iapply (owes_in (dat1 V c) t1_0.succ 0 (owed_after V c) rfl); iexact HO
  isplitl [Hx0]; · iexact Hx0
  isplitl [Hx1]; · iexact Hx1
  iexact Hy

theorem row1 (t : Fin cfg1.N) : defs₀ (F := F) .tc cfg1.body (cfg1.bodyArgs t (cfg1.slots t)) = bodyAt1 t := by
  unfold defs₀; rw [Defs.onTc_tc]

/-- The second call's body does its part at its one point. -/
theorem body1 (c : Dev nD) : BodyObligation (dat1 (F := F) V c) (defs₀ (F := F)) 𝒱₀ () Set.univ := fun t => by
  obtain rfl := fin_N1 t
  rw [bigSep_W1, bigSep_W1, row1]
  exact triple_restated (body1_at V c) rfl .rfl fun _ => .rfl

end Second

end Cert.FlashMesh

end
-- ==== Proof.Segments.lean ====
module

public import proofs.«01_k».proof.Proof.Calls

@[expose] public section

set_option maxRecDepth 16384

noncomputable section

namespace Cert.FlashMesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

/-! # The program as segments

The buffers' contents between the program's items, and the two kernel calls as records of what each
is entered from and left at. -/

variable {F : FTy → Type} [FloatOps F]

local notation "𝕄" => MT nD τ sig Unit (Elt F) ℕ UU ℕ

variable (m : (ℓ : Loc nD τ sig) → Buf (Elt F) ℓ)

/-! ## The buffers between items -/

/-- After the first call: the two arrays of sums; -/
def U2 (c : Dev nD) : Valuation τ sig (Elt F) :=
  Function.update (Function.update (V1 m c) main_v7_0 (sumU (V1 m) owed0 c)) main_v7_1 (sumL (V1 m) owed0 c)
/-- after the second: the quotient. -/
def U3 (c : Dev nD) : Valuation τ sig (Elt F) := Function.update (U2 m c) main_v8 (merged (arrs (U2 m)) c)
/-- What the calls leave, as the program's valuations read it. -/
def left : Outs (F := F) := fun _ r c => U3 m c r

theorem ne_8_0 : (Proc.devRef .tc main_v7_0 : DevRef τ sig) ≠ Proc.devRef .tc main_v8 := StableHlo.devRef_ne_of_ne (by decide)
theorem ne_8_1 : (Proc.devRef .tc main_v7_1 : DevRef τ sig) ≠ Proc.devRef .tc main_v8 := StableHlo.devRef_ne_of_ne (by decide)
theorem ne_0_1 : (Proc.devRef .tc main_v7_0 : DevRef τ sig) ≠ Proc.devRef .tc main_v7_1 := StableHlo.devRef_ne_of_ne (by decide)

theorem U2_0 (c : Dev nD) : U2 m c main_v7_0 = sumU (V1 m) owed0 c := by
  unfold U2; rw [Function.update_of_ne ne_0_1, Function.update_self]
theorem U2_1 (c : Dev nD) : U2 m c main_v7_1 = sumL (V1 m) owed0 c := by unfold U2; rw [Function.update_self]
theorem U3_8 (c : Dev nD) : U3 m c main_v8 = merged (arrs (U2 m)) c := by unfold U3; rw [Function.update_self]
theorem U3_of (c : Dev nD) (r : DevRef τ sig) (h : r ≠ Proc.devRef .tc main_v8) : U3 m c r = U2 m c r := by
  unfold U3; rw [Function.update_of_ne h]

theorem V2_eq (c : Dev nD) : V2 m (left m) c = U2 m c := by
  show Function.update (Function.update (V1 m c) main_v7_0 (U3 m c main_v7_0)) main_v7_1 (U3 m c main_v7_1) = _
  rw [U3_of m c _ ne_8_0, U3_of m c _ ne_8_1, U2_0, U2_1]; rfl
theorem V3_eq (c : Dev nD) : V3 m (left m) c = U3 m c := by
  show Function.update (V2 m (left m) c) main_v8 (U3 m c main_v8) = _
  rw [V2_eq, U3_8]; rfl

/-! ## The two calls' records -/

/-- The two calls' data. -/
def pdats : (p : Fin 2) → (c : Dev nD) → Dat τ (Elt F) Unit ℕ UU ℕ (cfgs p) c
  | 0 => dat0 (V1 m) owed0
  | 1 => dat1 (U2 m)

/-- What rides beside the buffers up to the second call, -/
def rides (c : Dev nD) : sProp 𝕄 := iprop(dormant (U2 m) c ∗ (∃ r, prngReg c r) ∗ ∃ W, owes (c : Thread nD τ) (owed0 c) W)
/-- and after it. -/
def rested (c : Dev nD) : sProp 𝕄 :=
  iprop(semVal (barCell c) 0 ∗ ∃ W, owes (c : Thread nD τ) (0 : CellTallies nD τ sig Unit) W)

/-- The two, by item. -/
def E : Fin 3 → Dev nD → sProp 𝕄
  | 0 => rides m
  | 1 => rides m
  | 2 => rested

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)

/-- The buffers a call's windows do not read or write. -/
abbrev off0 : Finset (DevRef τ sig) := Pipeline.ucRefs τ sig \ Pipeline.arrRefs (τ := τ) spec0
abbrev off1 : Finset (DevRef τ sig) := Pipeline.ucRefs τ sig \ Pipeline.arrRefs (τ := τ) spec1

/-- The first call's arrays as it finds and leaves them, -/
theorem at0 (c : Dev nD) (w : Fin 5) : (dat0 (F := F) (V1 m) owed0 c).arrAt w 0 = V1 m c (Proc.devRef .tc (Pipeline.arrRef spec0 w)) := rfl
theorem at0' (c : Dev nD) (w : Fin 5) :
    (dat0 (F := F) (V1 m) owed0 c).arrAt w cfg0.N = U2 m c (Proc.devRef .tc (Pipeline.arrRef spec0 w)) := by
  have h (w : Fin cfg0.W) (hin : (cfg0.win w).isOut = false) (h0 : Pipeline.arrRef spec0 w ≠ main_v7_0) (h1 : Pipeline.arrRef spec0 w ≠ main_v7_1) :
      (dat0 (F := F) (V1 m) owed0 c).arrAt w cfg0.N = U2 m c (Proc.devRef .tc (Pipeline.arrRef spec0 w)) := by
    unfold U2
    rw [Function.update_of_ne (StableHlo.devRef_ne_of_ne h1), Function.update_of_ne (StableHlo.devRef_ne_of_ne h0)]
    exact (dat0 (V1 m) owed0 c).arrAt_in w hin _
  match w with
  | 0 => exact h 0 rfl (by decide) (by decide)
  | 1 => exact h 1 rfl (by decide) (by decide)
  | 2 => exact h 2 rfl (by decide) (by decide)
  | 3 => exact (U2_0 m c).symm
  | 4 => exact (U2_1 m c).symm
/-- and the second's. -/
theorem at1 (c : Dev nD) (w : Fin 3) : (dat1 (F := F) (U2 m) c).arrAt w 0 = U2 m c (Proc.devRef .tc (Pipeline.arrRef spec1 w)) := rfl
theorem at1' (c : Dev nD) (w : Fin 3) :
    (dat1 (F := F) (U2 m) c).arrAt w cfg1.N = U3 m c (Proc.devRef .tc (Pipeline.arrRef spec1 w)) := by
  match w with
  | 0 => exact ((dat1 (U2 m) c).arrAt_in 0 rfl _).trans (U3_of m c _ ne_8_0).symm
  | 1 => exact ((dat1 (U2 m) c).arrAt_in 1 rfl _).trans (U3_of m c _ ne_8_1).symm
  | 2 => exact (final1_2 (U2 m) c).trans (U3_8 m c).symm

/-- The staging semaphores stand at level zero. -/
theorem low (p : Fin 2) (c : Dev nD) (w : Fin (cfgs p).W) (s : Fin ((cfgs p).win w).nbuf) :
    lv ((c : Thread nD τ), .dma (((cfgs p).win w).sem s)) () ≤ 0 := by
  have h : ∀ (p : Fin 2) (w : Fin (cfgs p).W) (s : Fin ((cfgs p).win w).nbuf), (((cfgs p).win w).sem s).val < 15 := by decide
  show (if (((cfgs p).win w).sem s).val < 15 then 0 else 2) ≤ 0
  rw [if_pos (h p w s)]

/-- What the first call does not touch: its unstaged buffers, and all that rides along. -/
def rest0 (c : Dev nD) : sProp 𝕄 := iprop(StableHlo.held (c : Thread nD τ) off0 (V1 m c) ∗ dormant (U2 m) c ∗ ∃ r, prngReg c r)

set_option backward.isDefEq.respectTransparency.types false in
/-- The first call: the debt stands throughout. -/
def reg0 : Pipeline.RegionSeg (pcfgs (F := F)) adm (pdats m) () defs₀ 𝒱₀ L lv 0 :=
  Pipeline.RegionSeg.ofHeld (pcfgs (F := F)) adm (pdats m) () defs₀ 𝒱₀ L lv 0 owed0 (fun _ => iprop(emp)) (fun _ => iprop(emp))
    launch0.toP rfl (fun c => (body0 (V1 m) owed0 c).loose) (fun _ _ => rfl) (fun _ => rfl) (fun c w => (dat0 (V1 m) owed0 c).share_full (fun _ => rfl) w)
    (fun c => show iprop(Pipeline.scopedRest spec0 c ∗ emp) ⊢ Pipeline.scopedRest spec0 c from by iintro ⟨H, -⟩; iexact H)
    (fun c => show Pipeline.scopedRest spec0 c ⊢ iprop(Pipeline.scopedRest spec0 c ∗ emp) from by
      iintro H
      isplitl [H]; · iexact H
      iempintro)
    (fun _ => 0)
    ⟨fun c w s => by rw [L_tc]; exact Finset.mem_singleton_self _, fun c w s => low 0 c w s, fun c g i h => owed0_pos c g i h⟩
    (rest0 m) (V1 m) (U2 m) (at0 m) (at0' m)

/-- The first call is entered from the buffers after the host's first operations -/
theorem enter0 (c : Dev nD) :
    iprop(StableHlo.held (c : Thread nD τ) (Pipeline.ucRefs τ sig) (V1 m c) ∗ rides m c) ⊢ (reg0 m).pre c := by
  show _ ⊢ iprop(StableHlo.held (c : Thread nD τ) (Pipeline.arrRefs (τ := τ) spec0) (V1 m c) ∗ emp ∗ rest0 m c
    ∗ ∃ W, owes (c : Thread nD τ) (owed0 c) W)
  rw [StableHlo.held_sub_split (c : Thread nD τ) sub0 (V1 m c)]
  unfold rides rest0
  iintro ⟨⟨Ha, Hr⟩, Hd, Hp, HO⟩
  isplitl [Ha]; · iexact Ha
  isplitr; · iempintro
  isplitl [Hr Hd Hp]
  · isplitl [Hr]; · iexact Hr
    isplitl [Hd]; · iexact Hd
    iexact Hp
  iexact HO

/-- A valuation and its change at buffers outside a set hold the same on the set. -/
theorem held_same (c : Dev nD) (S : Finset (DevRef τ sig)) (W W' : Valuation τ sig (Elt F)) (h : ∀ b ∈ S, W b = W' b) :
    (StableHlo.held (c : Thread nD τ) S W : sProp 𝕄) ⊢ StableHlo.held (c : Thread nD τ) S W' := by
  unfold StableHlo.held
  exact Entails.of_eq (bigSep_congr fun b hb => by rw [h b hb])

theorem arr_of_off0 (b : DevRef τ sig) (hb : b ∈ off0) : b ≠ Proc.devRef .tc main_v7_0 ∧ b ≠ Proc.devRef .tc main_v7_1 := by
  have h0 : (Proc.devRef .tc main_v7_0 : DevRef τ sig) ∉ off0 := by decide
  have h1 : (Proc.devRef .tc main_v7_1 : DevRef τ sig) ∉ off0 := by decide
  exact ⟨fun e => h0 (e ▸ hb), fun e => h1 (e ▸ hb)⟩
theorem arr_of_off1 (b : DevRef τ sig) (hb : b ∈ off1) : b ≠ Proc.devRef .tc main_v8 := by
  have h0 : (Proc.devRef .tc main_v8 : DevRef τ sig) ∉ off1 := by decide
  exact fun e => h0 (e ▸ hb)

theorem same0 (c : Dev nD) (b : DevRef τ sig) (hb : b ∈ off0) : V1 m c b = U2 m c b := by
  unfold U2
  rw [Function.update_of_ne (arr_of_off0 b hb).2, Function.update_of_ne (arr_of_off0 b hb).1]
theorem same1 (c : Dev nD) (b : DevRef τ sig) (hb : b ∈ off1) : U3 m c b = U2 m c b := U3_of m c b (arr_of_off1 b hb)

/-- and left with the sums in their arrays. -/
theorem leave0 (c : Dev nD) :
    (reg0 m).post c ⊢ iprop(StableHlo.held (c : Thread nD τ) (Pipeline.ucRefs τ sig) (U2 m c) ∗ rides m c) := by
  show iprop(StableHlo.held (c : Thread nD τ) (Pipeline.arrRefs (τ := τ) spec0) (U2 m c) ∗ emp ∗ rest0 m c
    ∗ ∃ W, owes (c : Thread nD τ) (owed0 c) W) ⊢ _
  rw [StableHlo.held_sub_split (c : Thread nD τ) sub0 (U2 m c)]
  unfold rides rest0
  iintro ⟨Ha, -, ⟨Hr, Hd, Hp⟩, HO⟩
  isplitl [Ha Hr]
  · isplitl [Ha]; · iexact Ha
    iapply (held_same c off0 (V1 m c) (U2 m c) (same0 m c)); iexact Hr
  isplitl [Hd]; · iexact Hd
  isplitl [Hp]; · iexact Hp
  iexact HO

/-! ## The second call -/

/-- The semaphores the second call counts its transfers on. -/
abbrev osem1 : Fin 4 → SemLoc sig
  | 0 => .dma (sndS 0)
  | 1 => .dma (sndS 1)
  | 2 => .dma (rcvS 0)
  | 3 => .dma (rcvS 1)

theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem ownSems_eq (c : Dev nD) : (Pipeline.ownSems0 osem1 c : sProp 𝕄) = ownSems c :=
  four (fun k : Fin 4 => (semVal ((c : Thread nD τ), osem1 k) 0 : sProp 𝕄))

/-- With the transfers' counters at zero in hand, the exchange's cells open. -/
theorem open1 (V : Dev nD → Valuation τ sig (Elt F)) (c : Dev nD) :
    iprop(dormant V c ∗ Pipeline.ownSems0 osem1 c ∗ levAts L lv) ⊢ (|={Set.univ}=> iprop(opened V c ∗ levAts L lv) : sProp 𝕄) := by
  rw [ownSems_eq]
  unfold dormant opened ownSems
  iintro ⟨⟨%K, Hb, H0, H1⟩, ⟨Hs0, Hs1, Hr0, Hr1⟩, Hlev⟩
  imod (lane_open (arrs V) K 0 c) $$ [H0 Hs0 Hr0] with H0
  · isplitl [H0]; · iexact H0
    isplitl [Hs0]; · iexact Hs0
    iexact Hr0
  imod (lane_open (arrs V) K 1 c) $$ [H1 Hs1 Hr1] with H1
  · isplitl [H1]; · iexact H1
    isplitl [Hs1]; · iexact Hs1
    iexact Hr1
  imodintro
  isplitr [Hlev]
  · iexists K
    isplitl [Hb]; · iexact Hb
    isplitl [H0]; · iexact H0
    iexact H1
  iexact Hlev

theorem in1 (V : Dev nD → Valuation τ sig (Elt F)) (c : Dev nD) :
    iprop(Pipeline.scopedRest spec1 c ∗ (∃ r, prngReg c r) ∗ StableHlo.held (c : Thread nD τ) ∅ (V c) ∗ opened V c ∗ levAts L lv)
      ⊢ ((dat1 V c).Φ 0 : sProp 𝕄) := by
  rw [phi_first]
  iintro ⟨Hr, Hp, -, Ho, Hl⟩
  isplitl [Ho]; · iexact Ho
  isplitl [Hl]; · iexact Hl
  isplitl [Hr]; · iexact Hr
  iexact Hp

theorem out1 (V : Dev nD → Valuation τ sig (Elt F)) (W : Valuation τ sig (Elt F)) (c : Dev nD) :
    ((dat1 V c).Φ (Fin.last cfg1.N) : sProp 𝕄)
      ⊢ iprop(Pipeline.scopedRest spec1 c ∗ (∃ r, prngReg c r) ∗ StableHlo.held (c : Thread nD τ) ∅ W ∗ Pipeline.ownSems0 osem1 c
        ∗ semVal (barCell c) 0) := by
  rw [phi_last, ownSems_eq]
  unfold StableHlo.held
  rw [BI.bigSep_empty]
  iintro ⟨Hb, Hs, Hr, Hp⟩
  isplitl [Hr]; · iexact Hr
  isplitl [Hp]; · iexact Hp
  isplitr; · iempintro
  isplitl [Hs]; · iexact Hs
  iexact Hb

theorem cut1 (c : Dev nD) (t : Fin (cfg1.N + 1)) (g : GSem nD τ sig) (i : Unit) (h : 0 < (dat1 (F := F) (U2 m) c).owed t g i) :
    i ∈ L g ∧ 0 < lv g i := by
  rw [owed_eq] at h
  split at h
  · exact owed0_pos c g i h
  · exact absurd h (Nat.lt_irrefl 0)

set_option backward.isDefEq.respectTransparency.types false in
/-- The second call: it pays the debt. -/
def reg1 : Pipeline.RegionSeg (pcfgs (F := F)) adm (pdats m) () defs₀ 𝒱₀ L lv 1 :=
  Pipeline.RegionSeg.ofTalk (pcfgs (F := F)) adm (pdats m) () defs₀ 𝒱₀ L lv 1 osem1 (by decide : Pipeline.OwnSemFacts spec1 osem1)
    ∅ off1 (Finset.empty_subset _) launch1.toP rfl (fun c => (body1 (U2 m) c).loose)
    (fun _ => 0) owed0 (fun c => (owed_first (U2 m) c).trans (zero_add _).symm) (owed_last (U2 m)) (fun _ => rfl)
    (fun c w => (dat1 (U2 m) c).share_full (fun _ => rfl) w)
    (U2 m) (U3 m) (fun c b hb => same1 m c b (Finset.mem_sdiff.mp hb).1)
    (dormant (U2 m)) (fun c => semVal (barCell c) 0) (fun c => iprop(opened (U2 m) c ∗ levAts L lv)) (fun c => semVal (barCell c) 0)
    (open1 (U2 m)) (in1 (U2 m)) (fun c => out1 (U2 m) (U3 m c) c)
    (fun c => by iintro H; imodintro; iexact H)
    (fun _ => 0)
    ⟨fun c w s => by rw [L_tc]; exact Finset.mem_singleton_self _, fun c w s => low 1 c w s, fun c t g i h => cut1 m c t g i h⟩
    (fun _ => iprop(emp)) (at1 m) (at1' m)

/-- The second call is entered where the first is left -/
theorem enter1 (c : Dev nD) :
    iprop(StableHlo.held (c : Thread nD τ) (Pipeline.ucRefs τ sig) (U2 m c) ∗ rides m c) ⊢ (reg1 m).pre c := by
  show _ ⊢ iprop(StableHlo.held (c : Thread nD τ) (Pipeline.arrRefs (τ := τ) spec1) (U2 m c) ∗ (∃ r, prngReg c r)
    ∗ (StableHlo.held (c : Thread nD τ) off1 (U2 m c) ∗ emp) ∗ dormant (U2 m) c ∗ ∃ W, owes (c : Thread nD τ) (0 + owed0 c) W)
  rw [StableHlo.held_sub_split (c : Thread nD τ) sub1 (U2 m c), zero_add]
  unfold rides
  iintro ⟨⟨Ha, Hr⟩, Hd, Hp, HO⟩
  isplitl [Ha]; · iexact Ha
  isplitl [Hp]; · iexact Hp
  isplitl [Hr]
  · isplitl [Hr]; · iexact Hr
    iempintro
  isplitl [Hd]; · iexact Hd
  iexact HO

/-- and left with the quotient in its array, every debt paid. -/
theorem leave1 (c : Dev nD) :
    (reg1 m).post c ⊢ iprop(StableHlo.held (c : Thread nD τ) (Pipeline.ucRefs τ sig) (U3 m c) ∗ rested c) := by
  show iprop(StableHlo.held (c : Thread nD τ) (Pipeline.arrRefs (τ := τ) spec1) (U3 m c) ∗ (∃ r, prngReg c r)
    ∗ (StableHlo.held (c : Thread nD τ) off1 (U3 m c) ∗ emp) ∗ semVal (barCell c) 0
    ∗ ∃ W, owes (c : Thread nD τ) (0 : CellTallies nD τ sig Unit) W) ⊢ _
  rw [StableHlo.held_sub_split (c : Thread nD τ) sub1 (U3 m c)]
  unfold rested
  iintro ⟨Ha, -, ⟨Hr, -⟩, Hb, HO⟩
  isplitl [Ha Hr]
  · isplitl [Ha]; · iexact Ha
    iexact Hr
  isplitl [Hb]; · iexact Hb
  iexact HO

end Cert.FlashMesh

end
-- ==== Proof.Run.lean ====
module

public import proofs.«01_k».proof.Proof.Segments
public import Idealize.ShloMosaic.Lib.Quiescent
public import Idealize.ShloMosaic.Lib.StableHlo

@[expose] public section

set_option maxRecDepth 16384

noncomputable section

namespace Cert.FlashMesh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

/-! # Launch and run

At launch every cell of the exchange gets its invariant, and each device is dealt its own positions,
rights and credits and the rights to pay its partner's cells. From there the program's segments
follow one another, and the final memory is read off the last one. -/

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties -/

theorem osem1_inj : Function.Injective osem1 := by decide
theorem osem1_ne_bar : ∀ k : Fin 4, osem1 k ≠ .reg barS := by decide

def barEmb : Dev nD ↪ GSem nD τ sig := ⟨barCell, fun _ _ h => congrArg (fun g : GSem nD τ sig => g.1.1) h⟩
def dmaEmb : Dev nD × Fin 4 ↪ GSem nD τ sig :=
  ⟨fun x => ((x.1 : Thread nD τ), osem1 x.2), fun _ _ h =>
    Prod.ext (congrArg (fun g : GSem nD τ sig => g.1.1) h) (osem1_inj (congrArg Prod.snd h))⟩

/-- The barrier cells, whose counters are there from the start, -/
abbrev barCells : Finset (GSem nD τ sig) := Finset.univ.map barEmb
/-- and the transfers' cells, whose counters come with the second call. -/
abbrev dmaCells : Finset (GSem nD τ sig) := Finset.univ.map dmaEmb

theorem disjoint_cells : Disjoint (barCells : Finset (GSem nD τ sig)) dmaCells := by
  rw [Finset.disjoint_left]
  rintro g h₁ h₂
  obtain ⟨c, -, rfl⟩ := Finset.mem_map.mp h₁
  obtain ⟨x, -, h⟩ := Finset.mem_map.mp h₂
  exact osem1_ne_bar x.2 (congrArg Prod.snd h)

theorem bar_mem (c : Dev nD) : barCell c ∈ (barCells ∪ dmaCells : Finset (GSem nD τ sig)) :=
  Finset.mem_union_left _ (Finset.mem_map_of_mem barEmb (Finset.mem_univ c))
theorem snd_mem (i : Fin 2) (c : Dev nD) : dmaCell c (sndS i) ∈ (barCells ∪ dmaCells : Finset (GSem nD τ sig)) := by
  refine Finset.mem_union_right _ (Finset.mem_map.mpr ⟨(c, match i with | 0 => 0 | 1 => 1), Finset.mem_univ _, ?_⟩)
  fin_cases i <;> rfl
theorem rcv_mem (i : Fin 2) (c : Dev nD) : dmaCell c (rcvS i) ∈ (barCells ∪ dmaCells : Finset (GSem nD τ sig)) := by
  refine Finset.mem_union_right _ (Finset.mem_map.mpr ⟨(c, match i with | 0 => 2 | 1 => 3), Finset.mem_univ _, ?_⟩)
  fin_cases i <;> rfl

/-- The semaphores with a duty, one duty each. -/
abbrev tsem : Fin 5 → SemLoc sig
  | 0 => .reg barS
  | 1 => .dma (sndS 0)
  | 2 => .dma (sndS 1)
  | 3 => .dma (rcvS 0)
  | 4 => .dma (rcvS 1)
theorem tsem_inj : Function.Injective tsem := by decide

/-- Every duty of the exchange. -/
def talkToks : Finset (GSem nD τ sig × ℕ × Unit) :=
  Finset.univ.map ⟨fun x : Dev nD × Fin 5 => (((x.1 : Thread nD τ), tsem x.2), 0, ()), fun _ _ h =>
    Prod.ext (congrArg (fun t : GSem nD τ sig × ℕ × Unit => t.1.1.1) h)
      (tsem_inj (congrArg (fun t : GSem nD τ sig × ℕ × Unit => t.1.2) h))⟩

/-- The state the launch starts from: the pipelines' and the exchange's. -/
def u₀ : UU :=
  (initOf (Pipeline.cells (Pipeline.pin (pcfgs (F := F)) adm) cellOf_inj) (Pipeline.launchToks (Pipeline.pin (pcfgs (F := F)) adm) cellOf_inj),
    launchOf barCells dmaCells talkToks)

/-- A resource kept on one device, and nothing on the others. -/
def keptOn (c₀ : Dev nD) (X : sProp 𝕄) (c : Dev nD) : sProp 𝕄 := if c = c₀ then X else iprop(emp)
theorem kept_all (c₀ : Dev nD) (X : sProp 𝕄) : bigSep Finset.univ (keptOn c₀ X) = X := by
  rw [bigSep_univ_at _ c₀, bigSep_congr (s := Finset.univ.erase c₀) (Ψ := fun _ => (BI.emp : sProp 𝕄))
      fun c hc => by unfold keptOn; rw [if_neg (Finset.ne_of_mem_erase hc)]; rfl, BI.bigSep_emp_const]
  unfold keptOn; rw [if_pos rfl]
  exact BI.equiv_iff.mp sep_emp

/-- The exchange's launch state, kept whole until it is dealt. -/
def G : Dev nD → sProp 𝕄 := keptOn 0 (BI.own (EX (launchOf barCells dmaCells talkToks)))

/-! ## What is shared and what is dealt -/

/-- What every device may consult: all invariants, and that each barrier cell is at its first round. -/
def records (κ : GSem nD τ sig → ℕ) : sProp 𝕄 :=
  iprop((bigSep (barCells ∪ dmaCells) fun g => cellInv EX (Rd (arrs (U2 m))) (κ g) g) ∗ bigSep barCells fun g => reached EX g 0)

instance records_persistent (κ : GSem nD τ sig → ℕ) : BI.Persistent (records m κ) := by unfold records; infer_instance

theorem inv_at (κ : GSem nD τ sig → ℕ) {g : GSem nD τ sig} (hg : g ∈ (barCells ∪ dmaCells : Finset (GSem nD τ sig))) :
    (bigSep (barCells ∪ dmaCells) fun g => (cellInv EX (Rd (arrs (U2 m))) (κ g) g : sProp 𝕄)) ⊢ cellInv EX (Rd (arrs (U2 m))) (κ g) g :=
  bigSep_elim hg
theorem reached_at (c : Dev nD) : (bigSep barCells fun g => (reached EX g 0 : sProp 𝕄)) ⊢ reached EX (barCell c) 0 :=
  bigSep_elim (Finset.mem_map_of_mem barEmb (Finset.mem_univ c))

/-- The rights to open a device's four transfer cells, -/
def opens (c : Dev nD) : sProp 𝕄 :=
  iprop(openTok EX (dmaCell c (sndS 0)) ∗ openTok EX (dmaCell c (sndS 1)) ∗ openTok EX (dmaCell c (rcvS 0)) ∗ openTok EX (dmaCell c (rcvS 1)))
/-- the rights to pay the duties on a device's own cells, -/
def toks (c : Dev nD) : sProp 𝕄 :=
  iprop(dutyTok EX (barCell c) 0 () ∗ dutyTok EX (dmaCell c (sndS 0)) 0 () ∗ dutyTok EX (dmaCell c (sndS 1)) 0 ()
    ∗ dutyTok EX (dmaCell c (rcvS 0)) 0 () ∗ dutyTok EX (dmaCell c (rcvS 1)) 0 ())
/-- the rights to pay the duties a device does pay, -/
def dues (c : Dev nD) : sProp 𝕄 :=
  iprop(dutyTok EX (barCell (pr c)) 0 () ∗ dutyTok EX (dmaCell c (sndS 0)) 0 () ∗ dutyTok EX (dmaCell c (sndS 1)) 0 ()
    ∗ dutyTok EX (dmaCell (pr c) (rcvS 0)) 0 () ∗ dutyTok EX (dmaCell (pr c) (rcvS 1)) 0 ())
/-- and the credits a device waits with. -/
def creds (c : Dev nD) : sProp 𝕄 :=
  iprop(cred (tallyAt (barCell c) () 1) ∗ cred (tallyAt (dmaCell c (rcvS 0)) () N) ∗ cred (tallyAt (dmaCell c (rcvS 1)) () N))

/-- Dealt to a device: its barrier position, its openings and its dues. -/
def dealt (c : Dev nD) : sProp 𝕄 := iprop(atPos EX (barCell c) 0 ∅ 0 ∗ opens c ∗ dues c)

/-- With the records and the credits, that is what the exchange holds until the second call. -/
theorem dormant_intro (κ : GSem nD τ sig → ℕ) (c : Dev nD) : iprop(records m κ ∗ dealt c ∗ creds c) ⊢ dormant (U2 m) c := by
  unfold records dealt opens dues creds dormant barPart lanePart
  iintro ⟨⟨#HI, #HR⟩, ⟨HaB, ⟨Os0, Os1, Or0, Or1⟩, ⟨Tb, Ts0, Ts1, Tr0, Tr1⟩⟩, ⟨Cb, C0, C1⟩⟩
  iexists κ
  isplitl [HaB Tb Cb]
  · isplitr; · iapply (inv_at m κ (bar_mem c)); iexact HI
    isplitr; · iapply (inv_at m κ (bar_mem (pr c))); iexact HI
    isplitl [HaB]; · iexact HaB
    isplitr; · iapply (reached_at (F := F) (pr c)); iexact HR
    isplitl [Tb]; · iexact Tb
    iexact Cb
  isplitl [Os0 Or0 Ts0 Tr0 C0]
  · isplitr; · iapply (inv_at m κ (snd_mem 0 c)); iexact HI
    isplitr; · iapply (inv_at m κ (rcv_mem 0 c)); iexact HI
    isplitr; · iapply (inv_at m κ (rcv_mem 0 (pr c))); iexact HI
    isplitl [Os0]; · iexact Os0
    isplitl [Or0]; · iexact Or0
    isplitl [Ts0]; · iexact Ts0
    isplitl [Tr0]; · iexact Tr0
    iexact C0
  · isplitr; · iapply (inv_at m κ (snd_mem 1 c)); iexact HI
    isplitr; · iapply (inv_at m κ (rcv_mem 1 c)); iexact HI
    isplitr; · iapply (inv_at m κ (rcv_mem 1 (pr c))); iexact HI
    isplitl [Os1]; · iexact Os1
    isplitl [Or1]; · iexact Or1
    isplitl [Ts1]; · iexact Ts1
    isplitl [Tr1]; · iexact Tr1
    iexact C1

theorem five (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-- The duties' rights, device by device. -/
theorem toks_eq : bigSep talkToks (fun x => (dutyTok EX x.1 x.2.1 x.2.2 : sProp 𝕄)) = bigSep Finset.univ fun c : Dev nD => toks c := by
  unfold talkToks; rw [bigSep_map, bigSep_univ_prod]
  exact bigSep_congr fun c _ => by unfold toks; rw [five]; rfl

/-- The rights on barrier and arrival cells go to the partner. -/
theorem toks_swapped : (bigSep Finset.univ fun c : Dev nD => (toks c : sProp 𝕄)) ⊢ bigSep Finset.univ fun c : Dev nD => (dues c : sProp 𝕄) := by
  unfold toks dues
  simp only [bigSep_sep']
  rw [bigSep_univ_equiv swap (fun c : Dev nD => (dutyTok EX (barCell c) 0 () : sProp 𝕄)),
    bigSep_univ_equiv swap (fun c : Dev nD => (dutyTok EX (dmaCell c (rcvS 0)) 0 () : sProp 𝕄)),
    bigSep_univ_equiv swap (fun c : Dev nD => (dutyTok EX (dmaCell c (rcvS 1)) 0 () : sProp 𝕄))]
  exact BI.Entails.refl _

/-! ## The launch's credit -/

/-- A debt to a partner's cell, read at a cell of the same semaphore. -/
theorem tally_partner (d c : Dev nD) (s : SemLoc sig) (n : ℕ) :
    (tallyAt ((pr d : Thread nD τ), s) () n : CellTallies nD τ sig Unit) ((c : Thread nD τ), s) () = if d = pr c then n else 0 := by
  rw [tallyAt_apply]
  by_cases h : d = pr c
  · subst h; rw [pr_pr, if_pos ⟨rfl, rfl⟩, if_pos rfl]
  · rw [if_neg (fun ⟨h1, _⟩ => h (by rw [← pr_pr d]; exact congrArg pr (congrArg (fun g : GSem nD τ sig => g.1.1) h1).symm)), if_neg h]
/-- At a cell of another semaphore there is none. -/
theorem tally_other (d c : Dev nD) (s s' : SemLoc sig) (hs : s ≠ s') (n : ℕ) :
    (tallyAt ((pr d : Thread nD τ), s) () n : CellTallies nD τ sig Unit) ((c : Thread nD τ), s') () = 0 := by
  rw [tallyAt_apply, if_neg fun h => hs (congrArg Prod.snd h.1).symm]

theorem owed0_apply (d : Dev nD) (g : GSem nD τ sig) :
    owed0 d g () = (tallyAt (dmaCell (pr d) (rcvS 1)) () N : CellTallies nD τ sig Unit) g ()
      + (tallyAt (dmaCell (pr d) (rcvS 0)) () N : CellTallies nD τ sig Unit) g ()
      + (tallyAt (barCell (pr d)) () 1 : CellTallies nD τ sig Unit) g () := rfl

theorem owed_bar (d c : Dev nD) : owed0 d (barCell c) () = if d = pr c then 1 else 0 := by
  rw [owed0_apply, tally_other d c (.dma (rcvS 1)) (.reg barS) (by decide), tally_other d c (.dma (rcvS 0)) (.reg barS) (by decide),
    tally_partner d c (.reg barS), Nat.zero_add]
theorem owed_rcv0 (d c : Dev nD) : owed0 d (dmaCell c (rcvS 0)) () = if d = pr c then N else 0 := by
  rw [owed0_apply, tally_other d c (.dma (rcvS 1)) (.dma (rcvS 0)) (by decide), tally_other d c (.reg barS) (.dma (rcvS 0)) (by decide),
    tally_partner d c (.dma (rcvS 0)), Nat.zero_add, Nat.add_zero]
theorem owed_rcv1 (d c : Dev nD) : owed0 d (dmaCell c (rcvS 1)) () = if d = pr c then N else 0 := by
  rw [owed0_apply, tally_other d c (.dma (rcvS 0)) (.dma (rcvS 1)) (by decide), tally_other d c (.reg barS) (.dma (rcvS 1)) (by decide),
    tally_partner d c (.dma (rcvS 1)), Nat.add_zero]

/-- What is owed to a cell by exactly its owner's partner is the cell's credit at launch. -/
theorem launch_credit (c : Dev nD) (s : SemLoc sig) (n : ℕ) (h : ∀ d, owed0 d ((c : Thread nD τ), s) () = if d = pr c then n else 0) :
    tallyOn ((c : Thread nD τ), s) (launchCredit (Pipeline.owing owed0) 0 ((c : Thread nD τ), s))
      = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (pr c) fun _ => n,
    if_pos (Finset.mem_univ _)]

theorem launch_creds (c : Dev nD) : (Pipeline.launchCred owed0 c : sProp 𝕄) ⊢ creds c := by
  have h : (bigSep {SemLoc.reg barS, SemLoc.dma (rcvS 0), SemLoc.dma (rcvS 1)} fun s : SemLoc sig =>
      (cred (tallyOn ((c : Thread nD τ), s) (launchCredit (Pipeline.owing owed0) 0 ((c : Thread nD τ), s))) : sProp 𝕄)) = creds c := by
    unfold creds
    rw [bigSep_eq_bigSepL_of_eq [SemLoc.reg barS, SemLoc.dma (rcvS 0), SemLoc.dma (rcvS 1)] (by decide) (by decide)]
    show iprop(cred (tallyOn ((c : Thread nD τ), SemLoc.reg barS) (launchCredit (Pipeline.owing owed0) 0 ((c : Thread nD τ), SemLoc.reg barS)))
      ∗ cred (tallyOn ((c : Thread nD τ), SemLoc.dma (rcvS 0)) (launchCredit (Pipeline.owing owed0) 0 ((c : Thread nD τ), SemLoc.dma (rcvS 0))))
      ∗ cred (tallyOn ((c : Thread nD τ), SemLoc.dma (rcvS 1)) (launchCredit (Pipeline.owing owed0) 0 ((c : Thread nD τ), SemLoc.dma (rcvS 1))))) = _
    rw [launch_credit c _ 1 fun d => owed_bar d c, launch_credit c _ N fun d => owed_rcv0 d c, launch_credit c _ N fun d => owed_rcv1 d c]
  rw [← h]
  exact BI.bigSep_subset (Finset.subset_univ _)

/-! ## The launch -/

theorem counters (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- Where a device's thread starts. -/
abbrev T₀ (c : Dev nD) : sProp 𝕄 := iprop(StableHlo.held (c : Thread nD τ) (Pipeline.ucRefs τ sig) (V0 m c) ∗ rides m c)
/-- Where it ends. -/
abbrev Tₙ (c : Dev nD) : sProp 𝕄 := iprop(StableHlo.held (c : Thread nD τ) (Pipeline.ucRefs τ sig) (V4 m (left m) c) ∗ semVal (barCell c) 0)

/-- A device's launch holdings apart from the exchange's cells. -/
def bundle (c : Dev nD) : sProp 𝕄 :=
  iprop(StableHlo.held (c : Thread nD τ) (Pipeline.ucRefs τ sig) (V0 m c) ∗ creds c ∗ owes (c : Thread nD τ) (owed0 c) ∅ ∗ ∃ r, prngReg c r)

theorem start_intro (κ : GSem nD τ sig → ℕ) (c : Dev nD) : iprop(records m κ ∗ (dealt c ∗ bundle m c)) ⊢ T₀ m c := by
  unfold bundle T₀ rides
  iintro ⟨HR, Hd, Hh, Hc, HO, Hp⟩
  isplitl [Hh]; · iexact Hh
  isplitl [HR Hd Hc]
  · iapply (dormant_intro m κ c)
    isplitl [HR]; · iexact HR
    isplitl [Hd]; · iexact Hd
    iexact Hc
  isplitl [Hp]; · iexact Hp
  iexists ∅; iexact HO

/-- Two families over the devices, paired. -/
theorem both {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm

/-- Every device's thread starts, from what the launch hands out. -/
theorem init :
    iprop((bigSep Finset.univ fun c : Dev nD => iprop(unscopedBufs c (fun b => m ((c : Thread nD τ).loc b)) ∗ unscopedSems0 c
          ∗ owes (c : Thread nD τ) (owed0 c) ∅ ∗ Pipeline.launchCred owed0 c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed0 c) ∅ ∗ Pipeline.launchCred owed0 c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V0 m c) from
      Pipeline.unscopedBufs_held c (V0 m c), counters]
    unfold bundle
    iintro ⟨Hh, Hus, HO, Hcr, Hp, HG⟩
    isplitl [Hh HO Hcr Hp]
    · isplitl [Hh]; · iexact Hh
      isplitl [Hcr]; · iapply (launch_creds (F := F) c); iexact Hcr
      isplitl [HO]; · iexact HO
      iexists (ρ c); iexact Hp
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos EX g 0 ∅ 0 : sProp 𝕄)) ⊢ bigSep Finset.univ (fun c : Dev nD => (atPos EX (barCell c) 0 ∅ 0 : sProp 𝕄)) :=
    Entails.of_eq (bigSep_map (s := Finset.univ) barEmb (Φ := fun g : GSem nD τ sig => (atPos EX g 0 ∅ 0 : sProp 𝕄)))
  have hopen : bigSep dmaCells (fun g => (openTok EX g : sProp 𝕄)) ⊢ bigSep Finset.univ (fun c : Dev nD => (opens c : sProp 𝕄)) :=
    Entails.of_eq (by
      rw [bigSep_map, bigSep_univ_prod]
      exact bigSep_congr fun c _ => four (fun k : Fin 4 => (openTok EX ((c : Thread nD τ), osem1 k) : sProp 𝕄)))
  iintro ⟨H, -⟩
  ihave H := (show (bigSep Finset.univ fun c : Dev nD => iprop(unscopedBufs c (fun b => m ((c : Thread nD τ).loc b)) ∗ unscopedSems0 c
          ∗ owes (c : Thread nD τ) (owed0 c) ∅ ∗ Pipeline.launchCred owed0 c ∗ prngReg c (ρ c) ∗ G c))
      ⊢ (bigSep Finset.univ fun c : Dev nD => iprop(bundle m c ∗ (semVal (barCell c) 0 ∗ G c)) : sProp 𝕄) from bigSep_mono fun c _ => hcore c) $$ H
  ihave H := (Entails.of_eq (bigSep_sep' _ _ _)) $$ H; icases H with ⟨HB, H⟩
  ihave H := (Entails.of_eq (bigSep_sep' _ _ _)) $$ H; icases H with ⟨Hv, HG⟩
  ihave Hu := (show bigSep Finset.univ (G (F := F)) ⊢ BI.own (EX (launchOf barCells dmaCells talkToks)) from
    Entails.of_eq (kept_all (F := F) 0 (BI.own (EX (launchOf barCells dmaCells talkToks))))) $$ HG
  imod (Rounds.fund_launch EX (Rd (arrs (U2 m))) disjoint_cells (fun g _ h => h) talkToks) $$ [Hv Hu] with ⟨%κ, -, #Hinv, #Hr, Hat, Hopen, Htok⟩
  · isplitl [Hv]; · iapply hv $$ Hv
    iexact Hu
  imodintro
  iapply (bigSep_with_persistent (R := records m κ) (Φ := fun c => iprop(dealt c ∗ bundle m c)) fun c _ => start_intro m κ c)
  isplitr
  · unfold records
    isplitr; · iexact Hinv
    iexact Hr
  iapply both
  isplitr [HB]
  · unfold dealt
    iapply both; isplitl [Hat]; · iapply hat $$ Hat
    iapply both; isplitl [Hopen]; · iapply hopen $$ Hopen
    iapply (toks_swapped (F := F))
    iapply (Entails.of_eq (toks_eq (F := F))) $$ Htok
  · iexact HB

/-! ## The run -/

/-- The program's items. -/
abbrev items (c : Dev nD) : List (Pipeline.Seg (pcfgs (F := F)) adm (pdats m) () defs₀ 𝒱₀ L lv) :=
  segs m (left m) 𝒱₀ L lv (E m) () (pdats m) (reg0 m) (reg1 m) c

theorem bar_only : ∀ sm : SemLoc sig, sm.isScoped .tc = false → sm = .reg barS := by decide

/-- What is read off a device at the end. -/
def Final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v9) = V4 m (left m) c main_v9)

set_option backward.isDefEq.respectTransparency.types false in
/-- THE RUN, at any number format: from any memory and zero counters the program ends on every device
    with its arguments as they were, its result as the segments compute it, and every counter at zero. -/
theorem run_main : θ_run defs (onTc (τ := τ) (main (F := F))) ⟨m, fun _ => 0, ρ⟩
    (fun r => (∀ c : Dev nD, Final m c r.2) ∧ r.2.sem = fun _ => 0) :=
  Pipeline.θ_run_regions_kit_dev_sems (pcfgs (F := F)) adm (pdats m) () cellOf_inj EP defs₀ 𝒱₀ L lv m ρ main (items m)
    (fun c Q => by
      rewrite [main_chain c, Pipeline.Seg.run_eq_chain,
        show (items m c).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, segs, Pipeline.Seg.pipes_host, Pipeline.Seg.pipes_region, Pipeline.Seg.pipes_nil]; decide)
    (O₀ := owed0) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [kept_all]; iexact HX)
    (T₀ := T₀ m) (Tₙ := Tₙ m)
    (hch := fun c => ⟨.rfl, enter0 m c, (leave0 m c).trans (enter1 m c),
      (leave1 m c).trans (Entails.of_eq (by rw [← V3_eq]; rfl)),
      show iprop(StableHlo.held (c : Thread nD τ) (Pipeline.ucRefs τ sig) (V4 m (left m) c) ∗ rested c)
        ⊢ iprop(Tₙ m c ∗ ∃ W, owes (c : Thread nD τ) (0 : CellTallies nD τ sig Unit) W) from by
        unfold rested
        iintro ⟨Hh, Hb, HO⟩
        isplitr [HO]
        · isplitl [Hh]; · iexact Hh
          iexact Hb
        iexact HO⟩)
    (hinit := init m ρ)
    (QY := fun c s => Final m c s ∧ s.sem (barCell c) = 0)
    (hfin := fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (V4 m (left m) c) s') $$ [Hh HSI]
      · isplitl [Hh]; · iexact Hh
        iexact HSI
      icases Hr with ⟨%h, HSI⟩
      imodintro
      isplitr
      · ipureintro
        have hu (r : Ref sig .tc) (hr : ¬ (Proc.devRef .tc r : DevRef τ sig).isScoped = true) := h (Proc.devRef .tc r) (Finset.mem_filter.mpr ⟨StableHlo.devRef_mem_tcRefs r, hr⟩)
        exact ⟨⟨(hu main_arg0 (by decide)).trans (V4_main_arg0 m _ c), (hu main_arg1 (by decide)).trans (V4_main_arg1 m _ c),
          (hu main_arg2 (by decide)).trans (V4_main_arg2 m _ c), hu main_v9 (by decide)⟩, by simpa using hb⟩
      iexact HSI)
    (hQ := fun s h hs => ⟨fun c => (h c).1,
      sem_eq_zero hs fun c sm hsm => by
        obtain rfl := bar_only sm hsm
        exact (h c).2⟩)

end Cert.FlashMesh

end
-- ==== Proof.Frames.lean ====
module

public import proofs.«01_k».proof.Proof.Run
public import proofs.«01_k».proof.Defs
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.FlashMesh

open Idealize.ShloMosaic Idealize.ShloMosaic.TcCoe Idealize.SL.Sem

/-! # The frames

The kernel and its idealization have the same text, so one run, at any number format, serves both. -/

/-- The run at any number format, of the arguments and counters alone. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0 :=
  (θ_run Cert.KernelIdeal.defs _ _).mono (fun _ h => ⟨fun c => ⟨(h.1 c).1, (h.1 c).2.1, (h.1 c).2.2.1⟩, h.2⟩) (run_main m ρ)

/-- The two body tables are one, label by label. -/
theorem bodies_same {F : FTy → Type} [FloatOps F] : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext p a
  fin_cases p <;> rfl

/-- So are the programs' tables. -/
theorem tables_same {F : FTy → Type} [FloatOps F] : Cert.Kernel.defs (F := F) = Cert.KernelIdeal.defs (F := F) := by
  unfold Cert.Kernel.defs
  rw [bodies_same]; rfl

/-- The kernel, on bits, runs to the end, leaves its arguments as they were and every counter at zero. -/
theorem frame_kernel : Cert.quiescent_Kernel (hKernel := Cert.Kernel.Gen.facts) := fun m ρ _ => by
  have h := run_frame (F := Bits) m ρ
  rw [← tables_same] at h
  exact h

/-- So does its idealization, on extended reals. -/
theorem frame_ideal : Cert.quiescent_KernelIdeal (hKernelIdeal := Cert.KernelIdeal.Gen.facts) := fun m ρ _ => run_frame (F := Ideal) m ρ

/-- So does the reference, which names no semaphore. -/
theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.FlashMesh

end
-- ==== Proof.BlockValue.lean ====
module

public import proofs.«01_k».proof.Proof.Partial
public import Idealize.ShloMosaic.Lib.Pointwise

@[expose] public section

set_option maxRecDepth 16384

noncomputable section

namespace Cert.FlashMesh

open Cert.KernelIdeal Cert.KernelIdeal.Gen
open Idealize.ShloMosaic Idealize.ShloMosaic.TcCoe
open Idealize.ShloMosaic.Pointwise

/-! # One point's sums, on extended reals

A block holds eight heads of 64 lanes. The head mask makes one product of all eight heads' scores, and
copies each head's weights over its lanes again. -/

/-- The place of lane `e` of head `g`, among the 512 of a block. -/
def spot (g : Fin 8) (e : Fin 64) : Fin 512 := ⟨g * 64 + e, by omega⟩

/-- The factor that scales a score: one eighth, as its float word. -/
def eighth : EReal := Ideal.ofBits .f32 0x3E000000#32

/-- The mask's word: one on the lanes of head `h`. -/
theorem mask_word : ∀ (h : Fin 8) (c : Fin 512), BitVec.setWidth 32
        (IntOp.cmpi CmpIPredicate.eq
          (Scalar.select
            (IntOp.andi
              (IntOp.cmpi CmpIPredicate.ne
                (IntOp.subi (BitVec.setWidth 32 (IntOp.cmpi CmpIPredicate.sgt (BitVec.ofNat 32 c) 0#32))
                  (BitVec.setWidth 32 (IntOp.cmpi CmpIPredicate.slt (BitVec.ofNat 32 c) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 c) 64#32) 0#32))
            (IntOp.subi (IntOp.divsi ArithUnit.vector (BitVec.ofNat 32 c) 64#32) 1#32)
            (IntOp.divsi ArithUnit.vector (BitVec.ofNat 32 c) 64#32))
          (BitVec.ofNat 32 h)) = if (c : ℕ) / 64 = h then 1#32 else 0#32 := by
  decide +kernel

/-- The mask is one on the lanes of its head and zero elsewhere. -/
theorem mask_apply (h g : Fin 8) (e : Fin 64) : (k0_pay5 (F := Ideal)) (ix2 h (spot g e)) = if g = h then 1 else 0 := by
  pointwise [k0_pay5]
  rw [mask_word]
  have hl : ((spot g e : Fin 512) : ℕ) / 64 = g := by unfold spot; dsimp only; omega
  rw [hl]
  by_cases hg : g = h
  · subst hg; rw [if_pos rfl, if_pos rfl]
    show (((1#32 : BitVec 32).toInt : ℝ) : EReal) = 1
    rw [show (1#32 : BitVec 32).toInt = 1 from by decide]; simp
  · rw [if_neg (fun h' => hg (Fin.ext h')), if_neg hg]
    show (((0#32 : BitVec 32).toInt : ℝ) : EReal) = 0
    rw [show (0#32 : BitVec 32).toInt = 0 from by decide]; simp

/-- A sum over a block's lanes, head by head. -/
theorem sum_spots (f : Fin 512 → EReal) : ∑ l, f l = ∑ g : Fin 8, ∑ e : Fin 64, f (spot g e) := by
  rw [← Equiv.sum_comp (finProdFinEquiv (m := 8) (n := 64)) f, Fintype.sum_prod_type]
  refine Finset.sum_congr rfl fun g _ => Finset.sum_congr rfl fun e _ => congrArg f (Fin.ext ?_)
  show (e : ℕ) + 64 * g = g * 64 + e
  omega

/-- The score of key `r` under head `h`, before scaling. -/
def score (q : Vec Ideal S1x1x512 .bf16) (k : Vec Ideal S1x1024x512 .bf16) (r : Fin 1024) (h : Fin 8) : EReal :=
  ∑ e : Fin 64, k (ix3 0 r (spot h e)) * q (ix3 0 0 (spot h e))

/-- The masked product is the score: the other heads' lanes add nothing. -/
theorem pay6_apply (q : Vec Ideal S1x1x512 .bf16) (k : Vec Ideal S1x1024x512 .bf16) (r : Fin 1024) (h : Fin 8) :
    k0_pay6 (F := Ideal) q k (ix2 r h) = score q k r h := by
  pointwise [k0_pay6]
  rw [sum_spots, Finset.sum_eq_single h]
  · unfold score
    exact Finset.sum_congr rfl fun e _ => by rw [mask_apply, if_pos rfl, mul_one]
  · intro g _ hg
    exact Finset.sum_eq_zero fun e _ => by rw [mask_apply, if_neg hg, mul_zero, mul_zero]
  · intro h'; exact absurd (Finset.mem_univ _) h'

/-- The weight of key `r` under head `h`. -/
def weight (q : Vec Ideal S1x1x512 .bf16) (k : Vec Ideal S1x1024x512 .bf16) (r : Fin 1024) (h : Fin 8) : EReal :=
  Ideal.exp (score q k r h * eighth)

/-- Spread over the lanes, a head's weight stands on each of its own. -/
theorem spread (q : Vec Ideal S1x1x512 .bf16) (k : Vec Ideal S1x1024x512 .bf16) (r : Fin 1024) (g : Fin 8) (e : Fin 64) :
    ∑ h : Fin 8, Ideal.exp (k0_pay6 (F := Ideal) q k (ix2 r h) * eighth) * k0_pay5 (F := Ideal) (ix2 h (spot g e)) = weight q k r g := by
  rw [Finset.sum_eq_single g]
  · rw [mask_apply, if_pos rfl, mul_one, pay6_apply]; rfl
  · intro h _ hh
    rw [mask_apply, if_neg (Ne.symm hh), mul_zero]
  · intro h'; exact absurd (Finset.mem_univ _) h'

/-- The block of weighted sums, at a spot: the keys' values there, each by its weight. -/
theorem outU_apply (q : Vec Ideal S1x1x512 .bf16) (k v : Vec Ideal S1x1024x512 .bf16) (a b : Fin 1) (g : Fin 8) (e : Fin 64) :
    outU q k v (ix3 a b (spot g e)) = ∑ r : Fin 1024, weight q k r g * v (ix3 0 r (spot g e)) := by
  pointwise [outU, k0_pay2, k0_pay1, k0_pay4, k0_pay7]
  exact Finset.sum_congr rfl fun r _ => congrArg (· * v (ix3 0 r (spot g e))) (spread q k r g e)

/-- The block of the weights' sums, at a spot: its head's. -/
theorem outL_apply (q : Vec Ideal S1x1x512 .bf16) (k : Vec Ideal S1x1024x512 .bf16) (a b : Fin 1) (g : Fin 8) (e : Fin 64) :
    outL q k (ix3 a b (spot g e)) = ∑ r : Fin 1024, weight q k r g := by
  pointwise [outL, k0_pay3, k0_pay1, k0_pay7]
  exact Finset.sum_congr rfl fun r _ => spread q k r g e

end Cert.FlashMesh

end
-- ==== Proof.ArrayValue.lean ====
module

public import proofs.«01_k».proof.Proof.BlockValue
public import proofs.«01_k».proof.Proof.Segments
public import Idealize.ShloMosaic.Lib.Pipeline.ValueKit

@[expose] public section

set_option maxRecDepth 16384

noncomputable section

namespace Cert.FlashMesh

open Cert.KernelIdeal Cert.KernelIdeal.Gen
open Idealize.ShloMosaic Idealize.ShloMosaic.TcCoe
open Idealize.ShloMosaic.Pointwise
open Idealize.ShloMosaic.Pipeline (Dat Cfg)

/-! # One device's sums, as whole arrays

The blocks cover the two arrays of sums, so each array's element is its head's sum over the device's keys. -/

/-- The place of lane `e` of head `h`, among all 1024. -/
def wide (h : Fin 16) (e : Fin 64) : Fin 1024 := ⟨h * 64 + e, by omega⟩

/-- The weight of key `r` for batch `i` under head `h`. -/
def weightAt (q : Vec Ideal S16x1x1024 .bf16) (k : Vec Ideal S16x1024x1024 .bf16) (i h : Fin 16) (r : Fin 1024) : EReal :=
  Ideal.exp ((∑ e : Fin 64, k (ix3 i r (wide h e)) * q (ix3 i 0 (wide h e))) * eighth)

/-- The head of a lane. -/
def headOf (l : Fin 1024) : Fin 16 := ⟨l / 64, by omega⟩

/-- The array of weighted sums, -/
def allU (q : Vec Ideal S16x1x1024 .bf16) (k v : Vec Ideal S16x1024x1024 .bf16) : Vec Ideal S16x1x1024 .f32 :=
  fun j => ∑ r : Fin 1024, weightAt q k (j 0) (headOf (j 2)) r * v (ix3 (j 0) r (j 2))
/-- and the array of the weights' sums. -/
def allL (q : Vec Ideal S16x1x1024 .bf16) (k : Vec Ideal S16x1024x1024 .bf16) : Vec Ideal S16x1x1024 .f32 :=
  fun j => ∑ r : Fin 1024, weightAt q k (j 0) (headOf (j 2)) r

theorem idx_q : ∀ t : Fin cfg0.N, win0_0.index t = ![(grid0.coords t 0).val, 0, (grid0.coords t 1).val] := (by decide +kernel : ∀ t : Fin grid0.N, _)
theorem idx_k : ∀ t : Fin cfg0.N, win0_1.index t = ![(grid0.coords t 0).val, 0, (grid0.coords t 1).val] := (by decide +kernel : ∀ t : Fin grid0.N, _)
theorem idx_v : ∀ t : Fin cfg0.N, win0_2.index t = ![(grid0.coords t 0).val, 0, (grid0.coords t 1).val] := (by decide +kernel : ∀ t : Fin grid0.N, _)
theorem idx_U : ∀ t : Fin cfg0.N, win0_3.index t = ![(grid0.coords t 0).val, 0, (grid0.coords t 1).val] := (by decide +kernel : ∀ t : Fin grid0.N, _)
theorem idx_L : ∀ t : Fin cfg0.N, win0_4.index t = ![(grid0.coords t 0).val, 0, (grid0.coords t 1).val] := (by decide +kernel : ∀ t : Fin grid0.N, _)

variable (V : Dev nD → Valuation τ sig (Elt Ideal)) (O : Dev nD → CellTallies nD τ sig Unit)

/-- A lane of a block by its head and the lane within. -/
theorem spot_eta (l : Fin 512) : l = spot ⟨l / 64, by omega⟩ ⟨l % 64, by omega⟩ := Fin.ext (by show (l : ℕ) = l / 64 * 64 + l % 64; omega)

/-- Every place of a block is some lane of some head. -/
theorem spot_cases (y : S1x1x512.Idx) : ∃ (g : Fin 8) (e : Fin 64), y = ix3 (0 : Fin 1) (0 : Fin 1) (spot g e) :=
  ⟨_, _, (eq_ix3 y).trans (by rw [← spot_eta (y 2)]; congr 1 <;> exact Subsingleton.elim (α := Fin 1) _ _)⟩

/-- A point's weights are the array's. -/
theorem weight_eq (c : Dev nD) (t : Fin cfg0.N) (r : Fin 1024) (g : Fin 8) (i h : Fin 16)
    (hi : (i : ℕ) = (grid0.coords t 0).val) (hh : (h : ℕ) = (grid0.coords t 1).val * 8 + g) :
    weight (blk0 V c 0 t) (blk0 V c 1 t) r g = weightAt (V c main_v2) (V c main_v4) i h r := by
  unfold weight weightAt score
  congr 2
  refine Finset.sum_congr rfl fun e _ => ?_
  blk_simp [blk0, idx_q, idx_k]
  refine congrArg₂ (· * ·) (congrArg (V c main_v4) ?_) (congrArg (V c main_v2) ?_)
  · blk_ext [idx_k, wide, spot, hi, hh]
  · blk_ext [idx_q, wide, spot, hi, hh]

/-- A point's values are the array's. -/
theorem value_eq (c : Dev nD) (t : Fin cfg0.N) (r : Fin 1024) (g : Fin 8) (e : Fin 64) (i : Fin 16) (l : Fin 1024)
    (hi : (i : ℕ) = (grid0.coords t 0).val) (hl : (l : ℕ) = (grid0.coords t 1).val * 512 + (g * 64 + e)) :
    blk0 V c 2 t (ix3 (0 : Fin 1) r (spot g e)) = V c main_v6 (ix3 i r l) := by
  blk_simp [blk0, idx_v]
  refine congrArg (V c main_v6) ?_
  blk_ext [idx_v, spot, hi, hl]

/-- A point's block of weighted sums is the array's there, -/
theorem outU_eq (c : Dev nD) (t : Fin cfg0.N) (g : Fin 8) (e : Fin 64) (j : S16x1x1024.Idx)
    (hi : (j 0 : ℕ) = (grid0.coords t 0).val) (hl : (j 2 : ℕ) = (grid0.coords t 1).val * 512 + (g * 64 + e)) :
    outU (blk0 V c 0 t) (blk0 V c 1 t) (blk0 V c 2 t) (ix3 (0 : Fin 1) (0 : Fin 1) (spot g e))
      = allU (V c main_v2) (V c main_v4) (V c main_v6) j := by
  refine (outU_apply _ _ _ _ _ _ _).trans ?_
  unfold allU
  refine Finset.sum_congr rfl fun r _ => congrArg₂ (· * ·) (weight_eq V c t r g _ _ hi ?_) (value_eq V c t r g e _ _ hi hl)
  show (j 2 : ℕ) / 64 = _
  omega

/-- and its block of the weights' sums. -/
theorem outL_eq (c : Dev nD) (t : Fin cfg0.N) (g : Fin 8) (e : Fin 64) (j : S16x1x1024.Idx)
    (hi : (j 0 : ℕ) = (grid0.coords t 0).val) (hl : (j 2 : ℕ) = (grid0.coords t 1).val * 512 + (g * 64 + e)) :
    outL (blk0 V c 0 t) (blk0 V c 1 t) (ix3 (0 : Fin 1) (0 : Fin 1) (spot g e))
      = allL (V c main_v2) (V c main_v4) j := by
  refine (outL_apply _ _ _ _ _ _).trans ?_
  unfold allL
  refine Finset.sum_congr rfl fun r _ => weight_eq V c t r g _ _ hi ?_
  show (j 2 : ℕ) / 64 = _
  omega

/-- The first call's array of weighted sums, -/
theorem sumU_eq (c : Dev nD) : sumU V O c = allU (V c main_v2) (V c main_v4) (V c main_v6) := by
  unfold sumU
  refine (dat0 V O c).arrAt_eq_of_covers 3 _ (by decide +kernel) fun t hf y => ?_
  blk_simp
  rw [after_U]
  obtain ⟨g, e, rfl⟩ := spot_cases y
  refine outU_eq V c t g e _ ?_ ?_
  · blk_simp [idx_U]; exact Nat.add_zero _
  · blk_simp [idx_U, spot]

/-- and its array of the weights' sums. -/
theorem sumL_eq (c : Dev nD) : sumL V O c = allL (V c main_v2) (V c main_v4) := by
  unfold sumL
  refine (dat0 V O c).arrAt_eq_of_covers 4 _ (by decide +kernel) fun t hf y => ?_
  blk_simp
  rw [after_L]
  obtain ⟨g, e, rfl⟩ := spot_cases y
  refine outL_eq V c t g e _ ?_ ?_
  · blk_simp [idx_L]; exact Nat.add_zero _
  · blk_simp [idx_L, spot]

/-! ## The program's result, from its arguments -/

variable (m : (ℓ : Loc nD τ sig) → Buf (Elt Ideal) ℓ)

/-- The queries' array the first call reads: the argument, its heads laid side by side; -/
theorem V1_q (c : Dev nD) : (V1 m c main_v2 : Vec Ideal S16x1x1024 .bf16)
    = shapeCast S16x1x1024 (truncf (F := Ideal) .bf16 (m ((c : Thread nD τ).loc main_arg0) : FVec Ideal S16x1x16x64 .f32) bitsLt_bf16_f32) shapeCasts_S16x1x16x64_S16x1x1024 := by
  after_results
  rfl
/-- the keys'; -/
theorem V1_k (c : Dev nD) : (V1 m c main_v4 : Vec Ideal S16x1024x1024 .bf16)
    = shapeCast S16x1024x1024 (truncf (F := Ideal) .bf16 (m ((c : Thread nD τ).loc main_arg1) : FVec Ideal S16x1024x16x64 .f32) bitsLt_bf16_f32) shapeCasts_S16x1024x16x64_S16x1024x1024 := by
  after_results
  rfl
/-- and the values'. -/
theorem V1_v (c : Dev nD) : (V1 m c main_v6 : Vec Ideal S16x1024x1024 .bf16)
    = shapeCast S16x1024x1024 (truncf (F := Ideal) .bf16 (m ((c : Thread nD τ).loc main_arg2) : FVec Ideal S16x1024x16x64 .f32) bitsLt_bf16_f32) shapeCasts_S16x1024x16x64_S16x1024x1024 := by
  after_results
  rfl
/-- The result: the second call's array, its heads apart again. -/
theorem V4_9 (c : Dev nD) : (V4 m (left m) c main_v9 : Vec Ideal S16x1x16x64 .f32)
    = shapeCast S16x1x16x64 (V3 m (left m) c main_v8 : Vec Ideal S16x1x1024 .f32) shapeCasts_S16x1x1024_S16x1x16x64 := by
  after_results
  rfl

/-- The device's argument arrays. -/
abbrev argQ (c : Dev nD) : FVec Ideal S16x1x16x64 .f32 := m ((c : Thread nD τ).loc main_arg0)
abbrev argK (c : Dev nD) : FVec Ideal S16x1024x16x64 .f32 := m ((c : Thread nD τ).loc main_arg1)
abbrev argV (c : Dev nD) : FVec Ideal S16x1024x16x64 .f32 := m ((c : Thread nD τ).loc main_arg2)

theorem wide_div (h : Fin 16) (e : Fin 64) : ((wide h e : Fin 1024) : ℕ) / 64 = h := by unfold wide; dsimp only; omega
theorem wide_mod (h : Fin 16) (e : Fin 64) : ((wide h e : Fin 1024) : ℕ) % 64 = e := by unfold wide; dsimp only; omega
theorem headOf_wide (h : Fin 16) (e : Fin 64) : headOf (wide h e) = h := Fin.ext (wide_div h e)

/-- The three arrays, at a lane of a head. -/
theorem q_apply (c : Dev nD) (i h : Fin 16) (e : Fin 64) :
    (V1 m c main_v2 : Vec Ideal S16x1x1024 .bf16) (ix3 i 0 (wide h e)) = argQ m c (ix4 i 0 h e) := by
  rw [V1_q]
  pointwise
  exact congrArg₂ (fun x y => argQ m c (ix4 i 0 x y)) (Fin.ext (wide_div h e)) (Fin.ext (wide_mod h e))
theorem k_apply (c : Dev nD) (i h : Fin 16) (r : Fin 1024) (e : Fin 64) :
    (V1 m c main_v4 : Vec Ideal S16x1024x1024 .bf16) (ix3 i r (wide h e)) = argK m c (ix4 i r h e) := by
  rw [V1_k]
  pointwise
  exact congrArg₂ (fun x y => argK m c (ix4 i r x y)) (Fin.ext (wide_div h e)) (Fin.ext (wide_mod h e))
theorem v_apply (c : Dev nD) (i h : Fin 16) (r : Fin 1024) (e : Fin 64) :
    (V1 m c main_v6 : Vec Ideal S16x1024x1024 .bf16) (ix3 i r (wide h e)) = argV m c (ix4 i r h e) := by
  rw [V1_v]
  pointwise
  exact congrArg₂ (fun x y => argV m c (ix4 i r x y)) (Fin.ext (wide_div h e)) (Fin.ext (wide_mod h e))

/-- The weight device `c` gives its key `r`, for batch `i` under head `h`. -/
def own (c : Dev nD) (i h : Fin 16) (r : Fin 1024) : EReal :=
  Ideal.exp ((∑ e : Fin 64, argQ m c (ix4 i 0 h e) * argK m c (ix4 i r h e)) * eighth)

theorem weightAt_own (c : Dev nD) (i h : Fin 16) (r : Fin 1024) : weightAt (V1 m c main_v2) (V1 m c main_v4) i h r = own m c i h r := by
  unfold weightAt own
  refine congrArg (fun x => Ideal.exp (x * eighth)) (Finset.sum_congr rfl fun e _ => ?_)
  rw [q_apply, k_apply, mul_comm]

/-- The first call's arrays, at a lane of a head. -/
theorem U_apply (c : Dev nD) (i h : Fin 16) (d : Fin 64) :
    (U2 m c main_v7_0 : Vec Ideal S16x1x1024 .f32) (ix3 i 0 (wide h d)) = ∑ r : Fin 1024, own m c i h r * argV m c (ix4 i r h d) := by
  rw [U2_0, sumU_eq]
  show (∑ r : Fin 1024, weightAt (V1 m c main_v2) (V1 m c main_v4) i (headOf (wide h d)) r * (V1 m c main_v6 : Vec Ideal S16x1024x1024 .bf16) (ix3 i r (wide h d)) : EReal) = _
  refine Finset.sum_congr rfl fun r _ => ?_
  rw [headOf_wide, weightAt_own, v_apply]
theorem L_apply (c : Dev nD) (i h : Fin 16) (d : Fin 64) :
    (U2 m c main_v7_1 : Vec Ideal S16x1x1024 .f32) (ix3 i 0 (wide h d)) = ∑ r : Fin 1024, own m c i h r := by
  rw [U2_1, sumL_eq]
  show (∑ r : Fin 1024, weightAt (V1 m c main_v2) (V1 m c main_v4) i (headOf (wide h d)) r : EReal) = _
  refine Finset.sum_congr rfl fun r _ => ?_
  rw [headOf_wide, weightAt_own]

/-- The program's result on device `c`: the two partners' weighted sums over their weights' sums. -/
theorem result_apply (c : Dev nD) (j : S16x1x16x64.Idx) :
    (V4 m (left m) c main_v9 : Vec Ideal S16x1x16x64 .f32) j
      = Ideal.div ((∑ r : Fin 1024, own m c (j 0) (j 2) r * argV m c (ix4 (j 0) r (j 2) (j 3)))
            + ∑ r : Fin 1024, own m (pr c) (j 0) (j 2) r * argV m (pr c) (ix4 (j 0) r (j 2) (j 3)))
          ((∑ r : Fin 1024, own m c (j 0) (j 2) r) + ∑ r : Fin 1024, own m (pr c) (j 0) (j 2) r) := by
  rw [V4_9, V3_eq, U3_8]
  rw [eq_ix4 j]
  pointwise [merged, arrs, k1_pay1, k1_pay2]
  exact congrArg₂ Ideal.div (congrArg₂ (· + ·) (U_apply m c _ _ _) (U_apply m (pr c) _ _ _))
    (congrArg₂ (· + ·) (L_apply m c _ _ _) (L_apply m (pr c) _ _ _))

end Cert.FlashMesh

end
-- ==== Proof.Softmax.lean ====
module

public import Idealize.ShloMosaic.PureOps.Ideal
public import Idealize.ShloMosaic.PureOps

@[expose] public section

noncomputable section

namespace Cert.FlashMesh

open Idealize.ShloMosaic

/-! # Attention with and without the shift by the greatest score

For finite scores the shift cancels in the quotient, whatever the values are: the weights are finite and
positive, and a finite factor that is not negative comes out of any sum of extended reals. -/

/-- A finite factor that is not negative comes out of a sum. -/
theorem sum_mul_pos {ι : Type} (t : Finset ι) (f : ι → EReal) (c : EReal) (h₀ : 0 ≤ c) (h₁ : c ≠ ⊤) :
    (∑ k ∈ t, f k) * c = ∑ k ∈ t, f k * c := by
  classical
  induction t using Finset.induction_on with
  | empty => simp
  | insert a t ha ih => rw [Finset.sum_insert ha, Finset.sum_insert ha, EReal.right_distrib_of_nonneg_of_ne_top h₀ h₁, ih]

/-- A sum of reals is the same in the extended reals. -/
theorem sum_reals {ι : Type} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- The greatest of finitely many reals is a real. -/
theorem top_real {ι : Type} [Fintype ι] [Nonempty ι] (s : ι → ℝ) :
    ∃ μ : ℝ, Finset.fold max (⊥ : EReal) (fun k => (s k : EReal)) Finset.univ = μ := by
  obtain ⟨k⟩ := ‹Nonempty ι›
  refine ⟨_, (EReal.coe_toReal (ne_of_lt ?_) (ne_of_gt ?_)).symm⟩
  · exact (Finset.fold_max_lt _).2 ⟨bot_lt_top, fun x _ => EReal.coe_lt_top _⟩
  · exact (Finset.lt_fold_max _).2 (.inr ⟨k, Finset.mem_univ k, EReal.bot_lt_coe _⟩)

/-- A quotient of reals, the lower not zero. -/
theorem div_reals (a b : ℝ) (hb : b ≠ 0) : Ideal.div (a : EReal) (b : EReal) = ((a * b⁻¹ : ℝ) : EReal) := by
  unfold Ideal.div
  rw [if_neg (fun h => hb (EReal.coe_eq_zero.1 h)), ← EReal.coe_inv, ← EReal.coe_mul]

/-- The weighted mean of the values by the scores' exponentials is the one by the exponentials shifted
    by the greatest score. -/
theorem softmax_shift {ι : Type} [Fintype ι] [Nonempty ι] (S : ι → EReal) (hS : ∀ k, ∃ x : ℝ, S k = x) (v : ι → EReal) :
    Ideal.div (∑ k, Ideal.exp (S k) * v k) (∑ k, Ideal.exp (S k))
      = ∑ k, v k * Ideal.div (Ideal.exp (S k - Finset.fold max (⊥ : EReal) S Finset.univ))
          (∑ k, Ideal.exp (S k - Finset.fold max (⊥ : EReal) S Finset.univ)) := by
  choose s hs using hS
  obtain rfl : S = fun k => (s k : EReal) := funext hs
  obtain ⟨μ, hμ⟩ := top_real s
  have hL : (0 : ℝ) < ∑ k, Real.exp (s k) := Finset.sum_pos (fun k _ => Real.exp_pos _) Finset.univ_nonempty
  have hl : ∑ k, Real.exp (s k - μ) = (∑ k, Real.exp (s k)) * Real.exp (-μ) := by
    rw [Finset.sum_mul]; exact Finset.sum_congr rfl fun k _ => by rw [← Real.exp_add, sub_eq_add_neg]
  rw [hμ]
  simp only [← EReal.coe_sub, Ideal.exp_coe, sum_reals]
  have hq (k : ι) : Ideal.div (Real.exp (s k - μ) : EReal) ((∑ k, Real.exp (s k - μ) : ℝ) : EReal)
      = ((Real.exp (s k) * (∑ k, Real.exp (s k))⁻¹ : ℝ) : EReal) := by
    rw [hl, div_reals _ _ (mul_ne_zero hL.ne' (Real.exp_ne_zero _)), sub_eq_add_neg, Real.exp_add]
    congr 1
    have := Real.exp_ne_zero (-μ)
    field_simp
  simp only [hq]
  unfold Ideal.div
  rw [if_neg (fun h => hL.ne' (EReal.coe_eq_zero.1 h)), ← EReal.coe_inv,
    sum_mul_pos _ _ _ (EReal.coe_nonneg.2 (inv_nonneg.2 hL.le)) (EReal.coe_ne_top _)]
  refine Finset.sum_congr rfl fun k _ => ?_
  rw [EReal.coe_mul, ← mul_assoc, mul_comm (v k)]

/-- The word of minus infinity. -/
theorem word_bot : Ideal.ofBits .f32 0xFF800000#32 = (⊥ : EReal) := by
  show Ideal.ieee 8 23 (0xFF800000#32 : BitVec 32) = ⊥
  have h0 : ((0xFF800000#32 : BitVec 32).extractLsb' 23 8).toNat = 2 ^ 8 - 1 := by decide
  have h1 : ((0xFF800000#32 : BitVec 32).extractLsb' 0 23).toNat = 0 := by decide
  have h2 : ((0xFF800000#32 : BitVec 32).extractLsb' (8 + 23) 1 == 1#1) = true := by decide
  unfold Ideal.ieee; simp only [h0, h1, h2, if_true]

/-- The word of plus infinity. -/
theorem word_top : Ideal.ofBits .f32 0x7F800000#32 = (⊤ : EReal) := by
  show Ideal.ieee 8 23 (0x7F800000#32 : BitVec 32) = ⊤
  have h0 : ((0x7F800000#32 : BitVec 32).extractLsb' 23 8).toNat = 2 ^ 8 - 1 := by decide
  have h1 : ((0x7F800000#32 : BitVec 32).extractLsb' 0 23).toNat = 0 := by decide
  have h2 : ((0x7F800000#32 : BitVec 32).extractLsb' (8 + 23) 1 == 1#1) = false := by decide
  unfold Ideal.ieee; simp only [h0, h1, h2, if_true]; rfl

/-- The word of one eighth is a real. -/
theorem word_eighth : ∃ x : ℝ, Ideal.ofBits .f32 0x3E000000#32 = (x : EReal) := by
  show ∃ x : ℝ, Ideal.ieee 8 23 (0x3E000000#32 : BitVec 32) = (x : EReal)
  have h0 : ((0x3E000000#32 : BitVec 32).extractLsb' 23 8).toNat = 124 := by decide
  unfold Ideal.ieee; simp only [h0]
  rw [if_neg (by decide), if_neg (by decide)]
  exact ⟨_, rfl⟩

/-- An extended real of absolute value below infinity is a real. -/
theorem real_of_abs (x : EReal) (h : max x (-x) < ⊤) : ∃ r : ℝ, x = r := by
  induction x with
  | bot => simp at h
  | coe r => exact ⟨r, rfl⟩
  | top => simp at h

end Cert.FlashMesh

end
-- ==== Proof.RefValue.lean ====
module

public import proofs.«01_k».proof.Proof.Softmax
public import proofs.«01_k».proof.Proof.Gen.ReferenceIdeal.Run
public import Idealize.ShloMosaic.Lib.Pointwise

@[expose] public section

set_option maxRecDepth 16384

noncomputable section

namespace Cert.FlashMesh

open Cert.ReferenceIdeal Cert.ReferenceIdeal.Gen
open Idealize.ShloMosaic
open Idealize.ShloMosaic.Pointwise

/-! # The reference's value

Attention of one query over all 2048 keys, for each batch and head. -/

/-- The reference's result, of its whole argument arrays. -/
def attn (Q : FVec Ideal S16x1x16x64 .f32) (K V : FVec Ideal S16x2048x16x64 .f32) : FVec Ideal S16x1x16x64 .f32 :=
  transpose S16x1x16x64 [0, 3, 1, 2] (Host.dotGeneral dot_S16x2048x16x64_S16x16x1x2048_S16x16x64x1_1_3_3_2_02_01 none V (Host.divf (Host.exp (subf (mulf (Host.dotGeneral dot_S16x1x16x64_S16x2048x16x64_S16x16x1x2048_3_3_1_1_02_02 none Q K) (broadcastInDim S16x16x1x2048 ![] bcast_S_S16x16x1x2048 (constant S_ .f32 0x3E000000#32))) (broadcastInDim S16x16x1x2048 ![0, 1, 2, 3] bcast_S16x16x1x1_S16x16x1x2048_0_1_2_3 (broadcastInDim S16x16x1x1 ![0, 1, 2] bcast_S16x16x1_S16x16x1x1_0_1_2 (Host.reduce FloatOps.maximumf (mulf (Host.dotGeneral dot_S16x1x16x64_S16x2048x16x64_S16x16x1x2048_3_3_1_1_02_02 none Q K) (broadcastInDim S16x16x1x2048 ![] bcast_S_S16x16x1x2048 (constant S_ .f32 0x3E000000#32))) (constant S_ .f32 0xFF800000#32) reducesTo_S16x16x1x2048_S16x16x1_d3 h_S_))))) (broadcastInDim S16x16x1x2048 ![0, 1, 2, 3] bcast_S16x16x1x1_S16x16x1x2048_0_1_2_3 (broadcastInDim S16x16x1x1 ![0, 1, 2] bcast_S16x16x1_S16x16x1x1_0_1_2 (Host.reduceAdd (Host.exp (subf (mulf (Host.dotGeneral dot_S16x1x16x64_S16x2048x16x64_S16x16x1x2048_3_3_1_1_02_02 none Q K) (broadcastInDim S16x16x1x2048 ![] bcast_S_S16x16x1x2048 (constant S_ .f32 0x3E000000#32))) (broadcastInDim S16x16x1x2048 ![0, 1, 2, 3] bcast_S16x16x1x1_S16x16x1x2048_0_1_2_3 (broadcastInDim S16x16x1x1 ![0, 1, 2] bcast_S16x16x1_S16x16x1x1_0_1_2 (Host.reduce FloatOps.maximumf (mulf (Host.dotGeneral dot_S16x1x16x64_S16x2048x16x64_S16x16x1x2048_3_3_1_1_02_02 none Q K) (broadcastInDim S16x16x1x2048 ![] bcast_S_S16x16x1x2048 (constant S_ .f32 0x3E000000#32))) (constant S_ .f32 0xFF800000#32) reducesTo_S16x16x1x2048_S16x16x1_d3 h_S_))))) (constant S_ .f32 0x00000000#32) reducesTo_S16x16x1x2048_S16x16x1_d3 h_S_))))) transposes_S16x16x64x1_S16x1x16x64_0_3_1_2

/-- The score of key `k` for batch `i` under head `h`, scaled. -/
def scoreAt (Q : FVec Ideal S16x1x16x64 .f32) (K : FVec Ideal S16x2048x16x64 .f32) (i h : Fin 16) (k : Fin 2048) : EReal :=
  (∑ e : Fin 64, Q (ix4 i 0 h e) * K (ix4 i k h e)) * Ideal.ofBits .f32 0x3E000000#32

/-- The reference's result at an index: the values' mean by the shifted exponentials of the scores. -/
theorem attn_apply (Q : FVec Ideal S16x1x16x64 .f32) (K V : FVec Ideal S16x2048x16x64 .f32) (j : S16x1x16x64.Idx) :
    attn Q K V j = ∑ k : Fin 2048, V (ix4 (j 0) k (j 2) (j 3))
      * Ideal.div (Ideal.exp (scoreAt Q K (j 0) (j 2) k - Finset.fold max (⊥ : EReal) (scoreAt Q K (j 0) (j 2)) Finset.univ))
          (∑ k : Fin 2048, Ideal.exp (scoreAt Q K (j 0) (j 2) k - Finset.fold max (⊥ : EReal) (scoreAt Q K (j 0) (j 2)) Finset.univ)) := by
  rw [← word_bot]
  pointwise [attn]
  rfl

/-- Where all scores are finite, the result is the mean by the exponentials themselves. -/
theorem attn_mean (Q : FVec Ideal S16x1x16x64 .f32) (K V : FVec Ideal S16x2048x16x64 .f32) (j : S16x1x16x64.Idx)
    (hS : ∀ k, ∃ x : ℝ, scoreAt Q K (j 0) (j 2) k = x) :
    attn Q K V j = Ideal.div (∑ k : Fin 2048, Ideal.exp (scoreAt Q K (j 0) (j 2) k) * V (ix4 (j 0) k (j 2) (j 3)))
      (∑ k : Fin 2048, Ideal.exp (scoreAt Q K (j 0) (j 2) k)) := by
  rw [attn_apply]
  exact (softmax_shift _ hS _).symm

/-- Finite queries and keys make finite scores. -/
theorem score_real (Q : FVec Ideal S16x1x16x64 .f32) (K : FVec Ideal S16x2048x16x64 .f32) (i h : Fin 16) (k : Fin 2048)
    (hQ : ∀ e, ∃ x : ℝ, Q (ix4 i 0 h e) = (x : EReal)) (hK : ∀ e, ∃ x : ℝ, K (ix4 i k h e) = (x : EReal)) :
    ∃ x : ℝ, scoreAt Q K i h k = x := by
  choose q hq using hQ
  choose κ hκ using hK
  obtain ⟨z, hz⟩ := word_eighth
  refine ⟨(∑ e : Fin 64, q e * κ e) * z, ?_⟩
  unfold scoreAt
  simp only [hq, hκ, hz, ← EReal.coe_mul, sum_reals]

end Cert.FlashMesh

end
-- ==== Proof.Whole.lean ====
module

public import proofs.«01_k».proof.Defs
public import proofs.«01_k».proof.Proof.ArrayValue
public import proofs.«01_k».proof.Proof.RefValue
public import proofs.«01_k».proof.Proof.Frames
public import Idealize.ShloMosaic.Lib.ReduceAll

@[expose] public section

set_option maxRecDepth 16384

noncomputable section

namespace Cert.FlashMesh

open Idealize.ShloMosaic Idealize.ShloMosaic.TcCoe Idealize.SL.Sem
open Idealize.ShloMosaic.Pointwise

/-! # The kernel against the reference

The two partners hold the two halves of the keys, so their sums together run over all of them. -/

/-- The side conditions that the precondition's operations take. -/
instance preFacts : Cert.Pre_finite_scores_KernelIdeal.Facts where
  bcast_S_S16x1x16x64 := by decide
  reducesTo_S16x1x16x64_S_d0_1_2_3 := by decide
  h_S_ := by decide
  bcast_S_S16x1024x16x64 := by decide
  reducesTo_S16x1024x16x64_S_d0_1_2_3 := by decide

/-- The same over the whole arrays. -/
instance preFactsWhole : Cert.Pre_finite_scores_ReferenceIdeal.Facts where
  bcast_S_S16x1x16x64 := by decide
  reducesTo_S16x1x16x64_S_d0_1_2_3 := by decide
  h_S_ := by decide
  bcast_S_S16x2048x16x64 := by decide
  reducesTo_S16x2048x16x64_S_d0_1_2_3 := by decide

open Cert.KernelIdeal Cert.KernelIdeal.Gen

/-- An element whose comparison against infinity is one is a real. -/
theorem real_of_cmp (x : EReal) (h : FloatOps.cmpf (F := Ideal) (φ := .f32) .olt (FloatOps.absf (F := Ideal) (φ := .f32) x) (Ideal.ofBits .f32 0x7F800000#32) = 1#1) :
    ∃ r : ℝ, x = r := by
  refine real_of_abs x ?_
  rw [word_top] at h
  by_contra hn
  change BitVec.ofBool (decide (max x (-x) < ⊤)) = 1#1 at h
  rw [decide_eq_false hn] at h
  exact absurd h (by decide)

/-- Under the precondition a device's queries and keys are reals. -/
theorem pre_real (Q : FVec Ideal S16x1x16x64 .f32) (K V : FVec Ideal S16x1024x16x64 .f32)
    (h : Cert.Pre_finite_scores_KernelIdeal.fn (F := Ideal) Q K V = fun _ => 1#1) :
    (∀ j, ∃ r : ℝ, Q j = (r : EReal)) ∧ ∀ j, ∃ r : ℝ, K j = (r : EReal) := by
  have h0 := congrFun h (fun a => a.elim0)
  unfold Cert.Pre_finite_scores_KernelIdeal.fn at h0
  dsimp only at h0
  obtain ⟨hq, hk⟩ := IntOp.andi_eq_one.1 h0
  refine ⟨fun j => ?_, fun j => ?_⟩
  · exact real_of_cmp _ (Host.reduce_andi_all _ _ _ _ _ hq j)
  · exact real_of_cmp _ (Host.reduce_andi_all _ _ _ _ _ hk j)

/-- Device `c`'s key `r`, among all. -/
def key (c : Dev nD) (r : Fin 1024) : Fin 2048 := ⟨c.val / 4 * 1024 + r, by have : c.val < 8 := c.isLt; omega⟩

/-- The two partners' keys are all of them. -/
theorem sum_keys (c : Dev nD) (f : Fin 2048 → EReal) : (∑ r, f (key c r)) + ∑ r, f (key (pr c) r) = ∑ k, f k := by
  have hs : ∑ k, f k = (∑ r : Fin 1024, f (Fin.castAdd 1024 r)) + ∑ r : Fin 1024, f (Fin.natAdd 1024 r) :=
    Fin.sum_univ_add (a := 1024) (b := 1024) (show Fin (1024 + 1024) → EReal from f)
  have hc : c.val < 8 := c.isLt
  have lo (d : Dev nD) (hd : d.val / 4 = 0) : ∑ r, f (key d r) = ∑ r : Fin 1024, f (Fin.castAdd 1024 r) :=
    Finset.sum_congr rfl fun r _ => congrArg f (Fin.ext (by show d.val / 4 * 1024 + (r : ℕ) = r; omega))
  have hi (d : Dev nD) (hd : d.val / 4 = 1) : ∑ r, f (key d r) = ∑ r : Fin 1024, f (Fin.natAdd 1024 r) :=
    Finset.sum_congr rfl fun r _ => congrArg f (Fin.ext (by show d.val / 4 * 1024 + (r : ℕ) = 1024 + r; omega))
  have hp : (pr c).val = (c.val + 4) % 8 := rfl
  rw [hs]
  rcases Nat.lt_or_ge c.val 4 with h | h
  · rw [lo c (by omega), hi (pr c) (by omega)]
  · rw [hi c (by omega), lo (pr c) (by omega), add_comm]

/-- Every key is some device's, for one of the two partners. -/
theorem key_cases (c : Dev nD) (k : Fin 2048) : (∃ r, k = key c r) ∨ ∃ r, k = key (pr c) r := by
  have hc : c.val < 8 := c.isLt
  have hp : (pr c).val = (c.val + 4) % 8 := rfl
  have hk : k.val < 2048 := k.isLt
  by_cases h : k.val / 1024 = c.val / 4
  · exact .inl ⟨⟨k.val % 1024, by omega⟩, Fin.ext (by show k.val = c.val / 4 * 1024 + k.val % 1024; omega)⟩
  · exact .inr ⟨⟨k.val % 1024, by omega⟩, Fin.ext (by show k.val = (pr c).val / 4 * 1024 + k.val % 1024; omega)⟩

/-- An element of a device's block, in the whole array. -/
theorem block_apply (c : Dev nD) (X : FVec Ideal ⟨4, ![16, 2048, 16, 64]⟩ .f32) (i h : Fin 16) (r : Fin 1024) (e : Fin 64) :
    (Layout.blockN ⟨4, ![16, 1024, 16, 64]⟩ ⟨4, ![16, 2048, 16, 64]⟩ (Layout.meshBlock [2, 2, 2] ![[], [0], [], []] c) X) (ix4 i r h e)
      = X (ix4 i (key c r) h e) := by
  refine congrArg X (funext fun b => Fin.ext ?_)
  have hc : c.val < 8 := c.isLt
  rw [Layout.TilesN.idx_val]
  match b with
  | 0 => show 0 * 16 + (i : ℕ) = i; omega
  | 1 => show ((c.val / 4) % 2 * 1 + 0) * 1024 + (r : ℕ) = c.val / 4 * 1024 + r; omega
  | 2 => show 0 * 16 + (h : ℕ) = h; omega
  | 3 => show 0 * 64 + (e : ℕ) = e; omega

variable (m : (ℓ : Loc nD τ sig) → Buf (Elt Ideal) ℓ)

/-- The kernel's result on each device is the reference's, of the whole arrays. -/
theorem result_attn (Q : FVec Ideal ⟨4, ![16, 1, 16, 64]⟩ .f32) (K V : FVec Ideal ⟨4, ![16, 2048, 16, 64]⟩ .f32)
    (hp : Cert.Pre_KernelIdeal_finite_scores_KernelIdeal m)
    (hQ : ∀ c, argQ m c = Q)
    (hK : ∀ c, argK m c = Layout.blockN ⟨4, ![16, 1024, 16, 64]⟩ ⟨4, ![16, 2048, 16, 64]⟩ (Layout.meshBlock [2, 2, 2] ![[], [0], [], []] c) K)
    (hV : ∀ c, argV m c = Layout.blockN ⟨4, ![16, 1024, 16, 64]⟩ ⟨4, ![16, 2048, 16, 64]⟩ (Layout.meshBlock [2, 2, 2] ![[], [0], [], []] c) V)
    (c : Dev nD) : (V4 m (left m) c main_v9 : Vec Ideal S16x1x16x64 .f32) = attn Q K V := by
  have hk (c : Dev nD) (i h : Fin 16) (r : Fin 1024) (e : Fin 64) : argK m c (ix4 i r h e) = K (ix4 i (key c r) h e) := by
    rw [hK c]; exact block_apply c K i h r e
  have hv (c : Dev nD) (i h : Fin 16) (r : Fin 1024) (e : Fin 64) : argV m c (ix4 i r h e) = V (ix4 i (key c r) h e) := by
    rw [hV c]; exact block_apply c V i h r e
  have hw (c : Dev nD) (i h : Fin 16) (r : Fin 1024) : own m c i h r = Ideal.exp (scoreAt Q K i h (key c r)) := by
    unfold own scoreAt eighth
    rw [hQ c]
    simp only [hk]
  have real (d : Dev nD) (i h : Fin 16) (r : Fin 1024) : ∃ x : ℝ, scoreAt Q K i h (key d r) = x := by
    obtain ⟨rq, rk⟩ := pre_real _ _ _ (hp d)
    refine score_real Q K i h (key d r) (fun e => ?_) fun e => ?_
    · rw [← hQ d]; exact rq _
    · rw [← hk]; exact rk _
  have hu (c : Dev nD) (i h : Fin 16) (d : Fin 64) : ∑ r : Fin 1024, own m c i h r * argV m c (ix4 i r h d)
      = ∑ r : Fin 1024, Ideal.exp (scoreAt Q K i h (key c r)) * V (ix4 i (key c r) h d) :=
    Finset.sum_congr rfl fun r _ => congrArg₂ (· * ·) (hw c i h r) (hv c i h r d)
  have hl (c : Dev nD) (i h : Fin 16) : ∑ r : Fin 1024, own m c i h r = ∑ r : Fin 1024, Ideal.exp (scoreAt Q K i h (key c r)) :=
    Finset.sum_congr rfl fun r _ => hw c i h r
  funext j
  refine (result_apply m c j).trans (Eq.trans ?_ (attn_mean Q K V j fun k => ?_).symm)
  · exact congrArg₂ Ideal.div
      ((congrArg₂ (· + ·) (hu c _ _ _) (hu (pr c) _ _ _)).trans
        (sum_keys c fun k => Ideal.exp (scoreAt Q K (j 0) (j 2) k) * V (ix4 (j 0) k (j 2) (j 3))))
      ((congrArg₂ (· + ·) (hl c _ _) (hl (pr c) _ _)).trans (sum_keys c fun k => Ideal.exp (scoreAt Q K (j 0) (j 2) k)))
  · rcases key_cases c k with ⟨r, rfl⟩ | ⟨r, rfl⟩
    · exact real c _ _ r
    · exact real (pr c) _ _ r

/-- Kernel and reference compute the same function over the extended reals, where queries and keys are finite. -/
theorem value_claim : Cert.algebraic_KernelIdeal_ReferenceIdeal_pre_finite_scores_KernelIdeal
    (hKernelIdeal := Cert.KernelIdeal.Gen.facts) (hReferenceIdeal := Cert.ReferenceIdeal.Gen.facts) (hPre_finite_scores_KernelIdeal := preFacts) := by
  intro m g m' g' hp hm
  refine ⟨attn _ _ _, (θ_run _ _ _).mono (fun r h c => ⟨(h.1 c).2.2.2.trans (result_attn m _ _ _ hp (fun c => (hm c).1) (fun c => (hm c).2.1) (fun c => (hm c).2.2) c),
      (h.1 c).1, (h.1 c).2.1, (h.1 c).2.2.1⟩) (run_main (F := Ideal) m g), ?_⟩
  exact (θ_run _ _ _).mono (fun r h => h 0) (Cert.ReferenceIdeal.Value.run (F := Ideal) m' g')

end Cert.FlashMesh

end
-- ==== Proof.lean ====
module

public import proofs.«01_k».proof.Defs
public import proofs.«01_k».proof.Proof.Frames
public import proofs.«01_k».proof.Proof.Whole

@[expose] public section

noncomputable section

namespace Cert.Proof

open Cert.FlashMesh

/-- The claim: the frames, the idealization and the value. -/
theorem claim : Cert.Claim :=
  ⟨Cert.Kernel.Gen.facts, Cert.KernelIdeal.Gen.facts, Cert.ReferenceIdeal.Gen.facts, preFacts, preFactsWhole,
    frame_kernel, frame_ideal, fun m g _ => frame_ideal m g trivial,
    frame_ref, fun m g _ => frame_ref m g trivial, trivial, value_claim⟩

end Cert.Proof

end
